-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x77x768 : Shape := ⟨3, ![8, 77, 768]⟩
abbrev S8x196x768 : Shape := ⟨3, ![8, 196, 768]⟩
abbrev S12x768x64 : Shape := ⟨3, ![12, 768, 64]⟩
abbrev S768x768 : Shape := ⟨2, ![768, 768]⟩
abbrev S768 : Shape := ⟨1, ![768]⟩
abbrev S8x1x768 : Shape := ⟨3, ![8, 1, 768]⟩
abbrev S8x768 : Shape := ⟨2, ![8, 768]⟩
abbrev S1x8x196x768 : Shape := ⟨4, ![1, 8, 196, 768]⟩
abbrev S12x8x196x768 : Shape := ⟨4, ![12, 8, 196, 768]⟩
abbrev S96x196x768 : Shape := ⟨3, ![96, 196, 768]⟩
abbrev S1x12x768x64 : Shape := ⟨4, ![1, 12, 768, 64]⟩
abbrev S8x12x768x64 : Shape := ⟨4, ![8, 12, 768, 64]⟩
abbrev S96x768x64 : Shape := ⟨3, ![96, 768, 64]⟩
abbrev S96x196x64 : Shape := ⟨3, ![96, 196, 64]⟩
abbrev S1x8x1x768 : Shape := ⟨4, ![1, 8, 1, 768]⟩
abbrev S12x8x1x768 : Shape := ⟨4, ![12, 8, 1, 768]⟩
abbrev S96x1x768 : Shape := ⟨3, ![96, 1, 768]⟩
abbrev S96x1x64 : Shape := ⟨3, ![96, 1, 64]⟩
abbrev S96x64x196 : Shape := ⟨3, ![96, 64, 196]⟩
abbrev S96x1x196 : Shape := ⟨3, ![96, 1, 196]⟩
abbrev S_ : Shape := ⟨0, ![]⟩
abbrev S8 : Shape := ⟨1, ![8]⟩
abbrev S196 : Shape := ⟨1, ![196]⟩
abbrev S1x196 : Shape := ⟨2, ![1, 196]⟩
abbrev S8x1 : Shape := ⟨2, ![8, 1]⟩
abbrev S8x196 : Shape := ⟨2, ![8, 196]⟩
abbrev S8x1x196 : Shape := ⟨3, ![8, 1, 196]⟩
abbrev S1x8x1x196 : Shape := ⟨4, ![1, 8, 1, 196]⟩
abbrev S12x8x1x196 : Shape := ⟨4, ![12, 8, 1, 196]⟩
abbrev S96x1 : Shape := ⟨2, ![96, 1]⟩
abbrev S96x1x1 : Shape := ⟨3, ![96, 1, 1]⟩
abbrev S8x196x1 : Shape := ⟨3, ![8, 196, 1]⟩
abbrev S8x196x196 : Shape := ⟨3, ![8, 196, 196]⟩

class Facts : Prop where
  slices_S8x77x768_S8x1x768_0_0_0 : S8x77x768.Slices ![0, 0, 0] S8x1x768
  shapeCasts_S8x1x768_S8x768 : S8x1x768.ShapeCasts S8x768
  bcast_S8x768_S8x1x768_0_2 : S8x768.BroadcastsInDim S8x1x768 (![0, 2] : Fin 2 → Fin S8x1x768.rank)
  bcast_S8x196x768_S1x8x196x768_1_2_3 : S8x196x768.BroadcastsInDim S1x8x196x768 (![1, 2, 3] : Fin 3 → Fin S1x8x196x768.rank)
  bcast_S1x8x196x768_S12x8x196x768_0_1_2_3 : S1x8x196x768.BroadcastsInDim S12x8x196x768 (![0, 1, 2, 3] : Fin 4 → Fin S12x8x196x768.rank)
  shapeCasts_S12x8x196x768_S96x196x768 : S12x8x196x768.ShapeCasts S96x196x768
  bcast_S12x768x64_S1x12x768x64_1_2_3 : S12x768x64.BroadcastsInDim S1x12x768x64 (![1, 2, 3] : Fin 3 → Fin S1x12x768x64.rank)
  bcast_S1x12x768x64_S8x12x768x64_0_1_2_3 : S1x12x768x64.BroadcastsInDim S8x12x768x64 (![0, 1, 2, 3] : Fin 4 → Fin S8x12x768x64.rank)
  shapeCasts_S8x12x768x64_S96x768x64 : S8x12x768x64.ShapeCasts S96x768x64
  bcast_S8x1x768_S1x8x1x768_1_2_3 : S8x1x768.BroadcastsInDim S1x8x1x768 (![1, 2, 3] : Fin 3 → Fin S1x8x1x768.rank)
  bcast_S1x8x1x768_S12x8x1x768_0_1_2_3 : S1x8x1x768.BroadcastsInDim S12x8x1x768 (![0, 1, 2, 3] : Fin 4 → Fin S12x8x1x768.rank)
  shapeCasts_S12x8x1x768_S96x1x768 : S12x8x1x768.ShapeCasts S96x1x768
  transposes_S96x196x64_S96x64x196_0_2_1 : S96x196x64.Transposes [0, 2, 1] S96x64x196
  bcast_S_S96x1x196 : S_.BroadcastsInDim S96x1x196 (![] : Fin 0 → Fin S96x1x196.rank)
  bcast_S_S8 : S_.BroadcastsInDim S8 (![] : Fin 0 → Fin S8.rank)
  bcast_S196_S1x196_1 : S196.BroadcastsInDim S1x196 (![1] : Fin 1 → Fin S1x196.rank)
  bcast_S8_S8x1_0 : S8.BroadcastsInDim S8x1 (![0] : Fin 1 → Fin S8x1.rank)
  bcast_S1x196_S8x196_0_1 : S1x196.BroadcastsInDim S8x196 (![0, 1] : Fin 2 → Fin S8x196.rank)
  bcast_S8x1_S8x196_0_1 : S8x1.BroadcastsInDim S8x196 (![0, 1] : Fin 2 → Fin S8x196.rank)
  bcast_S8x196_S8x1x196_0_2 : S8x196.BroadcastsInDim S8x1x196 (![0, 2] : Fin 2 → Fin S8x1x196.rank)
  bcast_S8x1x196_S1x8x1x196_1_2_3 : S8x1x196.BroadcastsInDim S1x8x1x196 (![1, 2, 3] : Fin 3 → Fin S1x8x1x196.rank)
  bcast_S1x8x1x196_S12x8x1x196_0_1_2_3 : S1x8x1x196.BroadcastsInDim S12x8x1x196 (![0, 1, 2, 3] : Fin 4 → Fin S12x8x1x196.rank)
  shapeCasts_S12x8x1x196_S96x1x196 : S12x8x1x196.ShapeCasts S96x1x196
  reducesTo_S96x1x196_S96x1_d2 : S96x1x196.ReducesTo [2] S96x1
  h_S_ : 0 < S_.numel
  bcast_S_S96x1 : S_.BroadcastsInDim S96x1 (![] : Fin 0 → Fin S96x1.rank)
  bcast_S96x1_S96x1x1_0_1 : S96x1.BroadcastsInDim S96x1x1 (![0, 1] : Fin 2 → Fin S96x1x1.rank)
  bcast_S96x1x1_S96x1x196_0_1_2 : S96x1x1.BroadcastsInDim S96x1x196 (![0, 1, 2] : Fin 3 → Fin S96x1x196.rank)
  slicesBy_S96x1x196_S8x1x196_0s12_0s1_0s1 : S96x1x196.SlicesBy (![0, 0, 0] : Fin 3 → Nat) ![12, 1, 1] S8x1x196
  shapeCasts_S8x1x196_S8x196 : S8x1x196.ShapeCasts S8x196
  slicesBy_S96x1x196_S8x1x196_1s12_0s1_0s1 : S96x1x196.SlicesBy (![1, 0, 0] : Fin 3 → Nat) ![12, 1, 1] S8x1x196
  slicesBy_S96x1x196_S8x1x196_2s12_0s1_0s1 : S96x1x196.SlicesBy (![2, 0, 0] : Fin 3 → Nat) ![12, 1, 1] S8x1x196
  slicesBy_S96x1x196_S8x1x196_3s12_0s1_0s1 : S96x1x196.SlicesBy (![3, 0, 0] : Fin 3 → Nat) ![12, 1, 1] S8x1x196
  slicesBy_S96x1x196_S8x1x196_4s12_0s1_0s1 : S96x1x196.SlicesBy (![4, 0, 0] : Fin 3 → Nat) ![12, 1, 1] S8x1x196
  slicesBy_S96x1x196_S8x1x196_5s12_0s1_0s1 : S96x1x196.SlicesBy (![5, 0, 0] : Fin 3 → Nat) ![12, 1, 1] S8x1x196
  slicesBy_S96x1x196_S8x1x196_6s12_0s1_0s1 : S96x1x196.SlicesBy (![6, 0, 0] : Fin 3 → Nat) ![12, 1, 1] S8x1x196
  slicesBy_S96x1x196_S8x1x196_7s12_0s1_0s1 : S96x1x196.SlicesBy (![7, 0, 0] : Fin 3 → Nat) ![12, 1, 1] S8x1x196
  slicesBy_S96x1x196_S8x1x196_8s12_0s1_0s1 : S96x1x196.SlicesBy (![8, 0, 0] : Fin 3 → Nat) ![12, 1, 1] S8x1x196
  slicesBy_S96x1x196_S8x1x196_9s12_0s1_0s1 : S96x1x196.SlicesBy (![9, 0, 0] : Fin 3 → Nat) ![12, 1, 1] S8x1x196
  slicesBy_S96x1x196_S8x1x196_10s12_0s1_0s1 : S96x1x196.SlicesBy (![10, 0, 0] : Fin 3 → Nat) ![12, 1, 1] S8x1x196
  slicesBy_S96x1x196_S8x1x196_11s12_0s1_0s1 : S96x1x196.SlicesBy (![11, 0, 0] : Fin 3 → Nat) ![12, 1, 1] S8x1x196
  bcast_S_S8x196 : S_.BroadcastsInDim S8x196 (![] : Fin 0 → Fin S8x196.rank)
  bcast_S8x196_S8x196x1_0_1 : S8x196.BroadcastsInDim S8x196x1 (![0, 1] : Fin 2 → Fin S8x196x1.rank)
  bcast_S8x1x196_S8x196x196_0_1_2 : S8x1x196.BroadcastsInDim S8x196x196 (![0, 1, 2] : Fin 3 → Fin S8x196x196.rank)
  bcast_S8x196x1_S8x196x196_0_1_2 : S8x196x1.BroadcastsInDim S8x196x196 (![0, 1, 2] : Fin 3 → Fin S8x196x196.rank)
  reducesTo_S8x196x196_S8x196_d2 : S8x196x196.ReducesTo [2] S8x196
  bcast_S_S8x196x768 : S_.BroadcastsInDim S8x196x768 (![] : Fin 0 → Fin S8x196x768.rank)
  dot_S96x196x768_S96x768x64_S96x196x64_2_1_1_2_0_0_wf : DotDims.WF S96x196x768 S96x768x64 S96x196x64 [2] [1] [1] [2] [0] [0]
  dot_S96x1x768_S96x768x64_S96x1x64_2_1_1_2_0_0_wf : DotDims.WF S96x1x768 S96x768x64 S96x1x64 [2] [1] [1] [2] [0] [0]
  dot_S96x1x64_S96x64x196_S96x1x196_2_1_1_2_0_0_wf : DotDims.WF S96x1x64 S96x64x196 S96x1x196 [2] [1] [1] [2] [0] [0]

variable [Facts]

def dot_S96x196x768_S96x768x64_S96x196x64_2_1_1_2_0_0 : DotDims S96x196x768 S96x768x64 S96x196x64 where
  lhsContracting := [2]
  rhsContracting := [1]
  lhsNonContracting := [1]
  rhsNonContracting := [2]
  lhsBatch := [0]
  rhsBatch := [0]
  wf := dot_S96x196x768_S96x768x64_S96x196x64_2_1_1_2_0_0_wf
def dot_S96x1x768_S96x768x64_S96x1x64_2_1_1_2_0_0 : DotDims S96x1x768 S96x768x64 S96x1x64 where
  lhsContracting := [2]
  rhsContracting := [1]
  lhsNonContracting := [1]
  rhsNonContracting := [2]
  lhsBatch := [0]
  rhsBatch := [0]
  wf := dot_S96x1x768_S96x768x64_S96x1x64_2_1_1_2_0_0_wf
def dot_S96x1x64_S96x64x196_S96x1x196_2_1_1_2_0_0 : DotDims S96x1x64 S96x64x196 S96x1x196 where
  lhsContracting := [2]
  rhsContracting := [1]
  lhsNonContracting := [1]
  rhsNonContracting := [2]
  lhsBatch := [0]
  rhsBatch := [0]
  wf := dot_S96x1x64_S96x64x196_S96x1x196_2_1_1_2_0_0_wf
def fn_where {F : FTy → Type} [FloatOps F] (arg0 : IVec S96x1x196 1) (arg1 : FVec F S_ .f32) (arg2 : FVec F S96x1x196 .f32) : FVec F S96x1x196 .f32 :=
  let v0 : FVec F S_ .f32 := id arg1
  let v1 : FVec F S96x1x196 .f32 := broadcastInDim S96x1x196 ![] bcast_S_S96x1x196 v0
  let v2 : FVec F S96x1x196 .f32 := select arg0 v1 arg2
  v2

def fn_part4 {F : FTy → Type} [FloatOps F] (main_arg1 : FVec F S8x196x768 .f32) (main_v83 : FVec F S8x196 .f32) (main_v86 : FVec F S8x196x196 .f32) (main_v87 : FVec F S8x196x196 .f32) : IVec S8x196 1 × IVec S8x196x768 1 :=
  let main_v88 : IVec S8x196x196 1 := cmpf .ogt main_v86 main_v87
  let main_v89 : FVec F S8x196x196 .f32 := uitofp .f32 main_v88
  let main_cst_6 : FVec F S_ .f32 := constant S_ .f32 0x00000000#32
  let main_v90 : FVec F S8x196 .f32 := (fun x v => Host.reduceAdd x v reducesTo_S8x196x196_S8x196_d2 h_S_) main_v89 main_cst_6
  let main_v91 : FVec F S8x1x196 .f32 := broadcastInDim S8x1x196 ![0, 2] bcast_S8x196_S8x1x196_0_2 main_v83
  let main_v92 : FVec F S8x196x1 .f32 := broadcastInDim S8x196x1 ![0, 1] bcast_S8x196_S8x196x1_0_1 main_v83
  let main_v93 : FVec F S8x196x196 .f32 := broadcastInDim S8x196x196 ![0, 1, 2] bcast_S8x1x196_S8x196x196_0_1_2 main_v91
  let main_v94 : FVec F S8x196x196 .f32 := broadcastInDim S8x196x196 ![0, 1, 2] bcast_S8x196x1_S8x196x196_0_1_2 main_v92
  let main_v95 : IVec S8x196x196 1 := cmpf .oge main_v93 main_v94
  let main_v96 : FVec F S8x196x196 .f32 := uitofp .f32 main_v95
  let main_cst_7 : FVec F S_ .f32 := constant S_ .f32 0x00000000#32
  let main_v97 : FVec F S8x196 .f32 := (fun x v => Host.reduceAdd x v reducesTo_S8x196x196_S8x196_d2 h_S_) main_v96 main_cst_7
  let main_cst_8 : FVec F S_ .f32 := constant S_ .f32 0x43090000#32
  let main_v98 : FVec F S8x196 .f32 := broadcastInDim S8x196 ![] bcast_S_S8x196 main_cst_8
  let main_v99 : IVec S8x196 1 := cmpf .oge main_v90 main_v98
  let main_cst_9 : FVec F S_ .f32 := constant S_ .f32 0x43090000#32
  let main_v100 : FVec F S8x196 .f32 := broadcastInDim S8x196 ![] bcast_S_S8x196 main_cst_9
  let main_v101 : IVec S8x196 1 := cmpf .ole main_v97 main_v100
  let main_v102 : IVec S8x196 1 := ori main_v99 main_v101
  let main_cst_10 : FVec F S_ .f32 := constant S_ .f32 0xC61C4000#32
  let main_v103 : FVec F S8x196x768 .f32 := broadcastInDim S8x196x768 ![] bcast_S_S8x196x768 main_cst_10
  let main_v104 : IVec S8x196x768 1 := cmpf .oge main_arg1 main_v103
  (main_v102, main_v104)

def fn_part3 {F : FTy → Type} [FloatOps F] (main_arg1 : FVec F S8x196x768 .f32) (main_v46 : FVec F S96x1x196 .f32) (main_v48 : FVec F S8x196 .f32) (main_v50 : FVec F S8x196 .f32) (main_v52 : FVec F S8x196 .f32) (main_v54 : FVec F S8x196 .f32) (main_v56 : FVec F S8x196 .f32) (main_v58 : FVec F S8x196 .f32) (main_v60 : FVec F S8x196 .f32) (main_v62 : FVec F S8x196 .f32) (main_v64 : FVec F S8x196 .f32) : IVec S8x196 1 × IVec S8x196x768 1 :=
  let main_v65 : FVec F S8x1x196 .f32 := (Host.slice S8x1x196 ![9, 0, 0] ![12, 1, 1] · slicesBy_S96x1x196_S8x1x196_9s12_0s1_0s1) main_v46
  let main_v66 : FVec F S8x196 .f32 := shapeCast S8x196 main_v65 shapeCasts_S8x1x196_S8x196
  let main_v67 : FVec F S8x1x196 .f32 := (Host.slice S8x1x196 ![10, 0, 0] ![12, 1, 1] · slicesBy_S96x1x196_S8x1x196_10s12_0s1_0s1) main_v46
  let main_v68 : FVec F S8x196 .f32 := shapeCast S8x196 main_v67 shapeCasts_S8x1x196_S8x196
  let main_v69 : FVec F S8x1x196 .f32 := (Host.slice S8x1x196 ![11, 0, 0] ![12, 1, 1] · slicesBy_S96x1x196_S8x1x196_11s12_0s1_0s1) main_v46
  let main_v70 : FVec F S8x196 .f32 := shapeCast S8x196 main_v69 shapeCasts_S8x1x196_S8x196
  let main_v71 : FVec F S8x196 .f32 := addf main_v48 main_v50
  let main_v72 : FVec F S8x196 .f32 := addf main_v71 main_v52
  let main_v73 : FVec F S8x196 .f32 := addf main_v72 main_v54
  let main_v74 : FVec F S8x196 .f32 := addf main_v73 main_v56
  let main_v75 : FVec F S8x196 .f32 := addf main_v74 main_v58
  let main_v76 : FVec F S8x196 .f32 := addf main_v75 main_v60
  let main_v77 : FVec F S8x196 .f32 := addf main_v76 main_v62
  let main_v78 : FVec F S8x196 .f32 := addf main_v77 main_v64
  let main_v79 : FVec F S8x196 .f32 := addf main_v78 main_v66
  let main_v80 : FVec F S8x196 .f32 := addf main_v79 main_v68
  let main_v81 : FVec F S8x196 .f32 := addf main_v80 main_v70
  let main_cst_5 : FVec F S_ .f32 := constant S_ .f32 0x41400000#32
  let main_v82 : FVec F S8x196 .f32 := broadcastInDim S8x196 ![] bcast_S_S8x196 main_cst_5
  let main_v83 : FVec F S8x196 .f32 := Host.divf main_v81 main_v82
  let main_v84 : FVec F S8x1x196 .f32 := broadcastInDim S8x1x196 ![0, 2] bcast_S8x196_S8x1x196_0_2 main_v83
  let main_v85 : FVec F S8x196x1 .f32 := broadcastInDim S8x196x1 ![0, 1] bcast_S8x196_S8x196x1_0_1 main_v83
  let main_v86 : FVec F S8x196x196 .f32 := broadcastInDim S8x196x196 ![0, 1, 2] bcast_S8x1x196_S8x196x196_0_1_2 main_v84
  let main_v87 : FVec F S8x196x196 .f32 := broadcastInDim S8x196x196 ![0, 1, 2] bcast_S8x196x1_S8x196x196_0_1_2 main_v85
  fn_part4 (F := F) main_arg1 main_v83 main_v86 main_v87

def fn_part2 {F : FTy → Type} [FloatOps F] (main_arg1 : FVec F S8x196x768 .f32) (main_v41 : FVec F S96x1x196 .f32) : IVec S8x196 1 × IVec S8x196x768 1 :=
  let main_v42 : FVec F S96x1x196 .f32 := Host.exp main_v41
  let main_cst_4 : FVec F S_ .f32 := constant S_ .f32 0x00000000#32
  let main_v43 : FVec F S96x1 .f32 := (fun x v => Host.reduceAdd x v reducesTo_S96x1x196_S96x1_d2 h_S_) main_v42 main_cst_4
  let main_v44 : FVec F S96x1x1 .f32 := broadcastInDim S96x1x1 ![0, 1] bcast_S96x1_S96x1x1_0_1 main_v43
  let main_v45 : FVec F S96x1x196 .f32 := broadcastInDim S96x1x196 ![0, 1, 2] bcast_S96x1x1_S96x1x196_0_1_2 main_v44
  let main_v46 : FVec F S96x1x196 .f32 := Host.divf main_v42 main_v45
  let main_v47 : FVec F S8x1x196 .f32 := (Host.slice S8x1x196 ![0, 0, 0] ![12, 1, 1] · slicesBy_S96x1x196_S8x1x196_0s12_0s1_0s1) main_v46
  let main_v48 : FVec F S8x196 .f32 := shapeCast S8x196 main_v47 shapeCasts_S8x1x196_S8x196
  let main_v49 : FVec F S8x1x196 .f32 := (Host.slice S8x1x196 ![1, 0, 0] ![12, 1, 1] · slicesBy_S96x1x196_S8x1x196_1s12_0s1_0s1) main_v46
  let main_v50 : FVec F S8x196 .f32 := shapeCast S8x196 main_v49 shapeCasts_S8x1x196_S8x196
  let main_v51 : FVec F S8x1x196 .f32 := (Host.slice S8x1x196 ![2, 0, 0] ![12, 1, 1] · slicesBy_S96x1x196_S8x1x196_2s12_0s1_0s1) main_v46
  let main_v52 : FVec F S8x196 .f32 := shapeCast S8x196 main_v51 shapeCasts_S8x1x196_S8x196
  let main_v53 : FVec F S8x1x196 .f32 := (Host.slice S8x1x196 ![3, 0, 0] ![12, 1, 1] · slicesBy_S96x1x196_S8x1x196_3s12_0s1_0s1) main_v46
  let main_v54 : FVec F S8x196 .f32 := shapeCast S8x196 main_v53 shapeCasts_S8x1x196_S8x196
  let main_v55 : FVec F S8x1x196 .f32 := (Host.slice S8x1x196 ![4, 0, 0] ![12, 1, 1] · slicesBy_S96x1x196_S8x1x196_4s12_0s1_0s1) main_v46
  let main_v56 : FVec F S8x196 .f32 := shapeCast S8x196 main_v55 shapeCasts_S8x1x196_S8x196
  let main_v57 : FVec F S8x1x196 .f32 := (Host.slice S8x1x196 ![5, 0, 0] ![12, 1, 1] · slicesBy_S96x1x196_S8x1x196_5s12_0s1_0s1) main_v46
  let main_v58 : FVec F S8x196 .f32 := shapeCast S8x196 main_v57 shapeCasts_S8x1x196_S8x196
  let main_v59 : FVec F S8x1x196 .f32 := (Host.slice S8x1x196 ![6, 0, 0] ![12, 1, 1] · slicesBy_S96x1x196_S8x1x196_6s12_0s1_0s1) main_v46
  let main_v60 : FVec F S8x196 .f32 := shapeCast S8x196 main_v59 shapeCasts_S8x1x196_S8x196
  let main_v61 : FVec F S8x1x196 .f32 := (Host.slice S8x1x196 ![7, 0, 0] ![12, 1, 1] · slicesBy_S96x1x196_S8x1x196_7s12_0s1_0s1) main_v46
  let main_v62 : FVec F S8x196 .f32 := shapeCast S8x196 main_v61 shapeCasts_S8x1x196_S8x196
  let main_v63 : FVec F S8x1x196 .f32 := (Host.slice S8x1x196 ![8, 0, 0] ![12, 1, 1] · slicesBy_S96x1x196_S8x1x196_8s12_0s1_0s1) main_v46
  let main_v64 : FVec F S8x196 .f32 := shapeCast S8x196 main_v63 shapeCasts_S8x1x196_S8x196
  fn_part3 (F := F) main_arg1 main_v46 main_v48 main_v50 main_v52 main_v54 main_v56 main_v58 main_v60 main_v62 main_v64

def fn_part1 {F : FTy → Type} [FloatOps F] (main_arg1 : FVec F S8x196x768 .f32) (main_v20 : FVec F S96x1x196 .f32) (main_v21 : IVec S8 32) : IVec S8x196 1 × IVec S8x196x768 1 :=
  let main_v22 : IVec S196 32 := iotaInDim S196 32 0
  let main_v23 : IVec S1x196 32 := broadcastInDim S1x196 ![1] bcast_S196_S1x196_1 main_v22
  let main_v24 : IVec S8x1 32 := broadcastInDim S8x1 ![0] bcast_S8_S8x1_0 main_v21
  let main_v25 : IVec S8x196 32 := broadcastInDim S8x196 ![0, 1] bcast_S1x196_S8x196_0_1 main_v23
  let main_v26 : IVec S8x196 32 := broadcastInDim S8x196 ![0, 1] bcast_S8x1_S8x196_0_1 main_v24
  let main_v27 : IVec S8x196 1 := cmpi .slt main_v25 main_v26
  let main_v28 : FVec F S8x196 .f32 := uitofp .f32 main_v27
  let main_v29 : FVec F S8x1x196 .f32 := broadcastInDim S8x1x196 ![0, 2] bcast_S8x196_S8x1x196_0_2 main_v28
  let main_v30 : FVec F S1x8x1x196 .f32 := broadcastInDim S1x8x1x196 ![1, 2, 3] bcast_S8x1x196_S1x8x1x196_1_2_3 main_v29
  let main_v31 : FVec F S12x8x1x196 .f32 := broadcastInDim S12x8x1x196 ![0, 1, 2, 3] bcast_S1x8x1x196_S12x8x1x196_0_1_2_3 main_v30
  let main_v32 : FVec F S96x1x196 .f32 := shapeCast S96x1x196 main_v31 shapeCasts_S12x8x1x196_S96x1x196
  let main_cst_0 : FVec F S_ .f32 := constant S_ .f32 0x00000000#32
  let main_v33 : FVec F S96x1x196 .f32 := broadcastInDim S96x1x196 ![] bcast_S_S96x1x196 main_cst_0
  let main_v34 : IVec S96x1x196 1 := cmpf .oeq main_v32 main_v33
  let main_cst_1 : FVec F S_ .f32 := constant S_ .f32 0xC61C4000#32
  let main_v35 : FVec F S96x1x196 .f32 := fn_where (F := F) main_v34 main_cst_1 main_v20
  let main_cst_2 : FVec F S_ .f32 := constant S_ .f32 0xFF800000#32
  let main_v36 : FVec F S96x1 .f32 := (fun x v => Host.reduce FloatOps.maximumf x v reducesTo_S96x1x196_S96x1_d2 h_S_) main_v35 main_cst_2
  let main_cst_3 : FVec F S_ .f32 := constant S_ .f32 0xFF800000#32
  let main_v37 : FVec F S96x1 .f32 := broadcastInDim S96x1 ![] bcast_S_S96x1 main_cst_3
  let main_v38 : FVec F S96x1 .f32 := maximumf main_v37 main_v36
  let main_v39 : FVec F S96x1x1 .f32 := broadcastInDim S96x1x1 ![0, 1] bcast_S96x1_S96x1x1_0_1 main_v38
  let main_v40 : FVec F S96x1x196 .f32 := broadcastInDim S96x1x196 ![0, 1, 2] bcast_S96x1x1_S96x1x196_0_1_2 main_v39
  let main_v41 : FVec F S96x1x196 .f32 := subf main_v35 main_v40
  fn_part2 (F := F) main_arg1 main_v41

def fn {F : FTy → Type} [FloatOps F] (main_arg0 : FVec F S8x77x768 .f32) (main_arg1 : FVec F S8x196x768 .f32) (main_arg2 : FVec F S12x768x64 .f32) (main_arg3 : FVec F S12x768x64 .f32) (main_arg4 : FVec F S768x768 .f32) (main_arg5 : FVec F S768 .f32) : IVec S8x196 1 × IVec S8x196x768 1 :=
  let main_v0 : FVec F S8x1x768 .f32 := (extractStridedSlice S8x1x768 ![0, 0, 0] · slices_S8x77x768_S8x1x768_0_0_0) main_arg0
  let main_v1 : FVec F S8x768 .f32 := shapeCast S8x768 main_v0 shapeCasts_S8x1x768_S8x768
  let main_v2 : FVec F S8x1x768 .f32 := broadcastInDim S8x1x768 ![0, 2] bcast_S8x768_S8x1x768_0_2 main_v1
  let main_v3 : FVec F S1x8x196x768 .f32 := broadcastInDim S1x8x196x768 ![1, 2, 3] bcast_S8x196x768_S1x8x196x768_1_2_3 main_arg1
  let main_v4 : FVec F S12x8x196x768 .f32 := broadcastInDim S12x8x196x768 ![0, 1, 2, 3] bcast_S1x8x196x768_S12x8x196x768_0_1_2_3 main_v3
  let main_v5 : FVec F S96x196x768 .f32 := shapeCast S96x196x768 main_v4 shapeCasts_S12x8x196x768_S96x196x768
  let main_v6 : FVec F S1x12x768x64 .f32 := broadcastInDim S1x12x768x64 ![1, 2, 3] bcast_S12x768x64_S1x12x768x64_1_2_3 main_arg2
  let main_v7 : FVec F S8x12x768x64 .f32 := broadcastInDim S8x12x768x64 ![0, 1, 2, 3] bcast_S1x12x768x64_S8x12x768x64_0_1_2_3 main_v6
  let main_v8 : FVec F S96x768x64 .f32 := shapeCast S96x768x64 main_v7 shapeCasts_S8x12x768x64_S96x768x64
  let main_v9 : FVec F S96x196x64 .f32 := (fun l r => Host.dotGeneral dot_S96x196x768_S96x768x64_S96x196x64_2_1_1_2_0_0 none l r) main_v5 main_v8
  let main_v10 : FVec F S1x8x1x768 .f32 := broadcastInDim S1x8x1x768 ![1, 2, 3] bcast_S8x1x768_S1x8x1x768_1_2_3 main_v2
  let main_v11 : FVec F S12x8x1x768 .f32 := broadcastInDim S12x8x1x768 ![0, 1, 2, 3] bcast_S1x8x1x768_S12x8x1x768_0_1_2_3 main_v10
  let main_v12 : FVec F S96x1x768 .f32 := shapeCast S96x1x768 main_v11 shapeCasts_S12x8x1x768_S96x1x768
  let main_v13 : FVec F S1x12x768x64 .f32 := broadcastInDim S1x12x768x64 ![1, 2, 3] bcast_S12x768x64_S1x12x768x64_1_2_3 main_arg3
  let main_v14 : FVec F S8x12x768x64 .f32 := broadcastInDim S8x12x768x64 ![0, 1, 2, 3] bcast_S1x12x768x64_S8x12x768x64_0_1_2_3 main_v13
  let main_v15 : FVec F S96x768x64 .f32 := shapeCast S96x768x64 main_v14 shapeCasts_S8x12x768x64_S96x768x64
  let main_v16 : FVec F S96x1x64 .f32 := (fun l r => Host.dotGeneral dot_S96x1x768_S96x768x64_S96x1x64_2_1_1_2_0_0 none l r) main_v12 main_v15
  let main_v17 : FVec F S96x64x196 .f32 := (transpose S96x64x196 [0, 2, 1] · transposes_S96x196x64_S96x64x196_0_2_1) main_v9
  let main_v18 : FVec F S96x1x196 .f32 := (fun l r => Host.dotGeneral dot_S96x1x64_S96x64x196_S96x1x196_2_1_1_2_0_0 none l r) main_v16 main_v17
  let main_cst : FVec F S_ .f32 := constant S_ .f32 0x41000000#32
  let main_v19 : FVec F S96x1x196 .f32 := broadcastInDim S96x1x196 ![] bcast_S_S96x1x196 main_cst
  let main_v20 : FVec F S96x1x196 .f32 := Host.divf main_v18 main_v19
  let main_c : IVec S_ 32 := constantI S_ 32 196#32
  let main_v21 : IVec S8 32 := broadcastInDim S8 ![] bcast_S_S8 main_c
  fn_part1 (F := F) main_arg1 main_v20 main_v21
-- ==== Kernel.lean ====
abbrev S8x77x768 : Shape := ⟨3, ![8, 77, 768]⟩
abbrev S8x196x768 : Shape := ⟨3, ![8, 196, 768]⟩
abbrev S12x768x64 : Shape := ⟨3, ![12, 768, 64]⟩
abbrev S768x768 : Shape := ⟨2, ![768, 768]⟩
abbrev S768 : Shape := ⟨1, ![768]⟩
abbrev S8x1x768 : Shape := ⟨3, ![8, 1, 768]⟩
abbrev S8x768 : Shape := ⟨2, ![8, 768]⟩
abbrev S8x137x768 : Shape := ⟨3, ![8, 137, 768]⟩
abbrev S1x768x64 : Shape := ⟨3, ![1, 768, 64]⟩
abbrev S768x64 : Shape := ⟨2, ![768, 64]⟩
abbrev S768x192 : Shape := ⟨2, ![768, 192]⟩
abbrev S1x196x768 : Shape := ⟨3, ![1, 196, 768]⟩
abbrev S196x768 : Shape := ⟨2, ![196, 768]⟩
abbrev S196x192 : Shape := ⟨2, ![196, 192]⟩
abbrev S1x768 : Shape := ⟨2, ![1, 768]⟩
abbrev S1x192 : Shape := ⟨2, ![1, 192]⟩
abbrev S196x64 : Shape := ⟨2, ![196, 64]⟩
abbrev S1x64 : Shape := ⟨2, ![1, 64]⟩
abbrev S1x196 : Shape := ⟨2, ![1, 196]⟩
abbrev S1 : Shape := ⟨1, ![1]⟩
abbrev S1x1 : Shape := ⟨2, ![1, 1]⟩
abbrev S196x196 : Shape := ⟨2, ![196, 196]⟩
abbrev S137x196 : Shape := ⟨2, ![137, 196]⟩
abbrev S59x196 : Shape := ⟨2, ![59, 196]⟩
abbrev S196x1 : Shape := ⟨2, ![196, 1]⟩
abbrev S196 : Shape := ⟨1, ![196]⟩
abbrev S59x137 : Shape := ⟨2, ![59, 137]⟩
abbrev S59x59 : Shape := ⟨2, ![59, 59]⟩
abbrev S137x1 : Shape := ⟨2, ![137, 1]⟩
abbrev S137x768 : Shape := ⟨2, ![137, 768]⟩
abbrev S59x768 : Shape := ⟨2, ![59, 768]⟩
abbrev S137 : Shape := ⟨1, ![137]⟩
abbrev S59 : Shape := ⟨1, ![59]⟩
abbrev S59x1 : Shape := ⟨2, ![59, 1]⟩
abbrev S1x59 : Shape := ⟨2, ![1, 59]⟩
abbrev S58x768 : Shape := ⟨2, ![58, 768]⟩
abbrev S58x1 : Shape := ⟨2, ![58, 1]⟩
abbrev S2x768 : Shape := ⟨2, ![2, 768]⟩
abbrev S2x1 : Shape := ⟨2, ![2, 1]⟩
abbrev S57x768 : Shape := ⟨2, ![57, 768]⟩
abbrev S57x1 : Shape := ⟨2, ![57, 1]⟩
abbrev S4x768 : Shape := ⟨2, ![4, 768]⟩
abbrev S4x1 : Shape := ⟨2, ![4, 1]⟩
abbrev S55x768 : Shape := ⟨2, ![55, 768]⟩
abbrev S55x1 : Shape := ⟨2, ![55, 1]⟩
abbrev S8x1 : Shape := ⟨2, ![8, 1]⟩
abbrev S51x768 : Shape := ⟨2, ![51, 768]⟩
abbrev S51x1 : Shape := ⟨2, ![51, 1]⟩
abbrev S16x768 : Shape := ⟨2, ![16, 768]⟩
abbrev S16x1 : Shape := ⟨2, ![16, 1]⟩
abbrev S43x768 : Shape := ⟨2, ![43, 768]⟩
abbrev S43x1 : Shape := ⟨2, ![43, 1]⟩
abbrev S32x768 : Shape := ⟨2, ![32, 768]⟩
abbrev S32x1 : Shape := ⟨2, ![32, 1]⟩
abbrev S27x768 : Shape := ⟨2, ![27, 768]⟩
abbrev S27x1 : Shape := ⟨2, ![27, 1]⟩
abbrev S137x59 : Shape := ⟨2, ![137, 59]⟩
abbrev S1x137x768 : Shape := ⟨3, ![1, 137, 768]⟩

abbrev nBuf : Space → Nat
  | .hbm => 9
  | .vmem => 5
  | .smem => 0
  | _ => 0

abbrev bufTy : (tb : Table) → Fin (tcTables nBuf tb) → BufTy
  | .hbm, ⟨0, _⟩ => ⟨S8x77x768, .f32⟩
  | .hbm, ⟨1, _⟩ => ⟨S8x196x768, .f32⟩
  | .hbm, ⟨2, _⟩ => ⟨S12x768x64, .f32⟩
  | .hbm, ⟨3, _⟩ => ⟨S12x768x64, .f32⟩
  | .hbm, ⟨4, _⟩ => ⟨S768x768, .f32⟩
  | .hbm, ⟨5, _⟩ => ⟨S768, .f32⟩
  | .hbm, ⟨6, _⟩ => ⟨S8x1x768, .f32⟩
  | .hbm, ⟨7, _⟩ => ⟨S8x768, .f32⟩
  | .hbm, ⟨8, _⟩ => ⟨S8x137x768, .f32⟩
  | .local _ .vmem, ⟨0, _⟩ => ⟨S8x768, .f32⟩
  | .local _ .vmem, ⟨1, _⟩ => ⟨S8x196x768, .f32⟩
  | .local _ .vmem, ⟨2, _⟩ => ⟨S12x768x64, .f32⟩
  | .local _ .vmem, ⟨3, _⟩ => ⟨S12x768x64, .f32⟩
  | .local _ .vmem, ⟨4, _⟩ => ⟨S8x137x768, .f32⟩
  | _, _ => ⟨S8x77x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x196x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x137x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x77x768 : Shape := ⟨3, ![8, 77, 768]⟩
abbrev S8x196x768 : Shape := ⟨3, ![8, 196, 768]⟩
abbrev S12x768x64 : Shape := ⟨3, ![12, 768, 64]⟩
abbrev S768x768 : Shape := ⟨2, ![768, 768]⟩
abbrev S768 : Shape := ⟨1, ![768]⟩
abbrev S8x1x768 : Shape := ⟨3, ![8, 1, 768]⟩
abbrev S8x768 : Shape := ⟨2, ![8, 768]⟩
abbrev S1x8x196x768 : Shape := ⟨4, ![1, 8, 196, 768]⟩
abbrev S12x8x196x768 : Shape := ⟨4, ![12, 8, 196, 768]⟩
abbrev S96x196x768 : Shape := ⟨3, ![96, 196, 768]⟩
abbrev S1x12x768x64 : Shape := ⟨4, ![1, 12, 768, 64]⟩
abbrev S8x12x768x64 : Shape := ⟨4, ![8, 12, 768, 64]⟩
abbrev S96x768x64 : Shape := ⟨3, ![96, 768, 64]⟩
abbrev S96x196x64 : Shape := ⟨3, ![96, 196, 64]⟩
abbrev S1x8x1x768 : Shape := ⟨4, ![1, 8, 1, 768]⟩
abbrev S12x8x1x768 : Shape := ⟨4, ![12, 8, 1, 768]⟩
abbrev S96x1x768 : Shape := ⟨3, ![96, 1, 768]⟩
abbrev S96x1x64 : Shape := ⟨3, ![96, 1, 64]⟩
abbrev S96x64x196 : Shape := ⟨3, ![96, 64, 196]⟩
abbrev S96x1x196 : Shape := ⟨3, ![96, 1, 196]⟩
abbrev S_ : Shape := ⟨0, ![]⟩
abbrev S8 : Shape := ⟨1, ![8]⟩
abbrev S196 : Shape := ⟨1, ![196]⟩
abbrev S1x196 : Shape := ⟨2, ![1, 196]⟩
abbrev S8x1 : Shape := ⟨2, ![8, 1]⟩
abbrev S8x196 : Shape := ⟨2, ![8, 196]⟩
abbrev S8x1x196 : Shape := ⟨3, ![8, 1, 196]⟩
abbrev S1x8x1x196 : Shape := ⟨4, ![1, 8, 1, 196]⟩
abbrev S12x8x1x196 : Shape := ⟨4, ![12, 8, 1, 196]⟩
abbrev S96x1 : Shape := ⟨2, ![96, 1]⟩
abbrev S96x1x1 : Shape := ⟨3, ![96, 1, 1]⟩
abbrev S8x12x1x196 : Shape := ⟨4, ![8, 12, 1, 196]⟩
abbrev S8x137 : Shape := ⟨2, ![8, 137]⟩
abbrev S8x59 : Shape := ⟨2, ![8, 59]⟩
abbrev S8x137x1 : Shape := ⟨3, ![8, 137, 1]⟩
abbrev S8x137x768 : Shape := ⟨3, ![8, 137, 768]⟩
abbrev S8x59x1 : Shape := ⟨3, ![8, 59, 1]⟩
abbrev S8x59x768 : Shape := ⟨3, ![8, 59, 768]⟩
abbrev S8x768x137 : Shape := ⟨3, ![8, 768, 137]⟩
abbrev S8x59x137 : Shape := ⟨3, ![8, 59, 137]⟩
abbrev S1x1x137 : Shape := ⟨3, ![1, 1, 137]⟩
abbrev S8x59x137x1 : Shape := ⟨4, ![8, 59, 137, 1]⟩
abbrev S8x59x1x768 : Shape := ⟨4, ![8, 59, 1, 768]⟩
abbrev S8x59x137x768 : Shape := ⟨4, ![8, 59, 137, 768]⟩
abbrev S8x1x137 : Shape := ⟨3, ![8, 1, 137]⟩

abbrev nBuf : Space → Nat
  | .hbm => 184
  | .vmem => 0
  | .smem => 0
  | _ => 0

abbrev hbmTy0_0 (i : Nat) : BufTy := match i % 128 with
  | 0 => ⟨S8x77x768, .f32⟩
  | 1 => ⟨S8x196x768, .f32⟩
  | 2 => ⟨S12x768x64, .f32⟩
  | 3 => ⟨S12x768x64, .f32⟩
  | 4 => ⟨S768x768, .f32⟩
  | 5 => ⟨S768, .f32⟩
  | 6 => ⟨S8x1x768, .f32⟩
  | 7 => ⟨S8x768, .f32⟩
  | 8 => ⟨S8x1x768, .f32⟩
  | 9 => ⟨S1x8x196x768, .f32⟩
  | 10 => ⟨S12x8x196x768, .f32⟩
  | 11 => ⟨S96x196x768, .f32⟩
  | 12 => ⟨S1x12x768x64, .f32⟩
  | 13 => ⟨S8x12x768x64, .f32⟩
  | 14 => ⟨S96x768x64, .f32⟩
  | 15 => ⟨S96x196x64, .f32⟩
  | 16 => ⟨S1x8x1x768, .f32⟩
  | 17 => ⟨S12x8x1x768, .f32⟩
  | 18 => ⟨S96x1x768, .f32⟩
  | 19 => ⟨S1x12x768x64, .f32⟩
  | 20 => ⟨S8x12x768x64, .f32⟩
  | 21 => ⟨S96x768x64, .f32⟩
  | 22 => ⟨S96x1x64, .f32⟩
  | 23 => ⟨S96x64x196, .f32⟩
  | 24 => ⟨S96x1x196, .f32⟩
  | 25 => ⟨S_, .f32⟩
  | 26 => ⟨S96x1x196, .f32⟩
  | 27 => ⟨S96x1x196, .f32⟩
  | 28 => ⟨S_, .i32⟩
  | 29 => ⟨S8, .i32⟩
  | 30 => ⟨S196, .i32⟩
  | 31 => ⟨S1x196, .i32⟩
  | 32 => ⟨S8x1, .i32⟩
  | 33 => ⟨S8x196, .i32⟩
  | 34 => ⟨S8x196, .i32⟩
  | 35 => ⟨S8x196, .i1⟩
  | 36 => ⟨S8x196, .f32⟩
  | 37 => ⟨S8x1x196, .f32⟩
  | 38 => ⟨S1x8x1x196, .f32⟩
  | 39 => ⟨S12x8x1x196, .f32⟩
  | 40 => ⟨S96x1x196, .f32⟩
  | 41 => ⟨S_, .f32⟩
  | 42 => ⟨S96x1x196, .f32⟩
  | 43 => ⟨S96x1x196, .i1⟩
  | 44 => ⟨S_, .f32⟩
  | 45 => ⟨S_, .f32⟩
  | 46 => ⟨S96x1x196, .f32⟩
  | 47 => ⟨S96x1x196, .f32⟩
  | 48 => ⟨S_, .f32⟩
  | 49 => ⟨S96x1, .f32⟩
  | 50 => ⟨S_, .f32⟩
  | 51 => ⟨S96x1, .f32⟩
  | 52 => ⟨S96x1, .f32⟩
  | 53 => ⟨S96x1x1, .f32⟩
  | 54 => ⟨S96x1x196, .f32⟩
  | 55 => ⟨S96x1x196, .f32⟩
  | 56 => ⟨S96x1x196, .f32⟩
  | 57 => ⟨S_, .f32⟩
  | 58 => ⟨S96x1, .f32⟩
  | 59 => ⟨S96x1x1, .f32⟩
  | 60 => ⟨S96x1x196, .f32⟩
  | 61 => ⟨S96x1x196, .f32⟩
  | 62 => ⟨S8x12x1x196, .f32⟩
  | 63 => ⟨S_, .f32⟩
  | 64 => ⟨S8x1x196, .f32⟩
  | 65 => ⟨S_, .f32⟩
  | 66 => ⟨S8x1x196, .f32⟩
  | 67 => ⟨S8x1x196, .f32⟩
  | 68 => ⟨S8x196, .f32⟩
  | 69 => ⟨S8x137, .f32⟩
  | 70 => ⟨S8x137, .i32⟩
  | 71 => ⟨S8x196, .f32⟩
  | 72 => ⟨S8x59, .f32⟩
  | 73 => ⟨S8x59, .i32⟩
  | 74 => ⟨S8x137x1, .i32⟩
  | 75 => ⟨S_, .i32⟩
  | 76 => ⟨S8x137x1, .i32⟩
  | 77 => ⟨S8x137x1, .i1⟩
  | 78 => ⟨S_, .i32⟩
  | 79 => ⟨S8x137x1, .i32⟩
  | 80 => ⟨S8x137x1, .i32⟩
  | 81 => ⟨S8x137x1, .i32⟩
  | 82 => ⟨S8x137x768, .f32⟩
  | 83 => ⟨S8x59x1, .i32⟩
  | 84 => ⟨S_, .i32⟩
  | 85 => ⟨S8x59x1, .i32⟩
  | 86 => ⟨S8x59x1, .i1⟩
  | 87 => ⟨S_, .i32⟩
  | 88 => ⟨S8x59x1, .i32⟩
  | 89 => ⟨S8x59x1, .i32⟩
  | 90 => ⟨S8x59x1, .i32⟩
  | 91 => ⟨S8x59x768, .f32⟩
  | 92 => ⟨S8x59x768, .f32⟩
  | 93 => ⟨S_, .f32⟩
  | 94 => ⟨S8x59, .f32⟩
  | 95 => ⟨S8x59x1, .f32⟩
  | 96 => ⟨S8x59x1, .f32⟩
  | 97 => ⟨S_, .f32⟩
  | 98 => ⟨S8x59x1, .f32⟩
  | 99 => ⟨S8x59x1, .f32⟩
  | 100 => ⟨S8x59x768, .f32⟩
  | 101 => ⟨S8x59x768, .f32⟩
  | 102 => ⟨S8x137x768, .f32⟩
  | 103 => ⟨S_, .f32⟩
  | 104 => ⟨S8x137, .f32⟩
  | 105 => ⟨S8x137x1, .f32⟩
  | 106 => ⟨S8x137x1, .f32⟩
  | 107 => ⟨S_, .f32⟩
  | 108 => ⟨S8x137x1, .f32⟩
  | 109 => ⟨S8x137x1, .f32⟩
  | 110 => ⟨S8x137x768, .f32⟩
  | 111 => ⟨S8x137x768, .f32⟩
  | 112 => ⟨S8x768x137, .f32⟩
  | 113 => ⟨S8x59x137, .f32⟩
  | 114 => ⟨S_, .f32⟩
  | 115 => ⟨S8x59, .f32⟩
  | 116 => ⟨S8x59x1, .f32⟩
  | 117 => ⟨S8x59x1, .i32⟩
  | 118 => ⟨S8x59, .i32⟩
  | 119 => ⟨S8x59, .f32⟩
  | 120 => ⟨S_, .f32⟩
  | 121 => ⟨S8x59, .f32⟩
  | 122 => ⟨S8x59, .f32⟩
  | 123 => ⟨S8x59, .f32⟩
  | 124 => ⟨S8x59x1, .i32⟩
  | 125 => ⟨S1x1x137, .i32⟩
  | 126 => ⟨S8x59x137, .i32⟩
  | 127 => ⟨S8x59x137, .i32⟩
  | _ => ⟨S8x77x768, .f32⟩

abbrev hbmTy0_1 (i : Nat) : BufTy := match i % 128 with
  | 0 => ⟨S8x59x137, .i1⟩
  | 1 => ⟨S8x59x137, .f32⟩
  | 2 => ⟨S8x59x137x1, .f32⟩
  | 3 => ⟨S_, .f32⟩
  | 4 => ⟨S8x59x137x1, .f32⟩
  | 5 => ⟨S8x59x137x1, .i1⟩
  | 6 => ⟨S8x59x1x768, .f32⟩
  | 7 => ⟨S8x59x137x768, .f32⟩
  | 8 => ⟨S_, .f32⟩
  | 9 => ⟨S_, .f32⟩
  | 10 => ⟨S8x59x137x768, .i1⟩
  | 11 => ⟨S8x59x137x768, .f32⟩
  | 12 => ⟨S8x59x137x768, .f32⟩
  | 13 => ⟨S_, .f32⟩
  | 14 => ⟨S8x137x768, .f32⟩
  | 15 => ⟨S_, .f32⟩
  | 16 => ⟨S8x137, .f32⟩
  | 17 => ⟨S8x1x137, .f32⟩
  | 18 => ⟨S_, .f32⟩
  | 19 => ⟨S8x1x137, .f32⟩
  | 20 => ⟨S8x1x137, .i1⟩
  | 21 => ⟨S8x137x1, .i1⟩
  | 22 => ⟨S8x137x1, .i1⟩
  | 23 => ⟨S_, .f32⟩
  | 24 => ⟨S_, .f32⟩
  | 25 => ⟨S8x137x768, .i1⟩
  | 26 => ⟨S8x137x768, .f32⟩
  | 27 => ⟨S8x137x768, .f32⟩
  | 28 => ⟨S_, .f32⟩
  | 29 => ⟨S8x59x137, .f32⟩
  | 30 => ⟨S8x59x137, .i1⟩
  | 31 => ⟨S8x59x1, .f32⟩
  | 32 => ⟨S8x59x137, .f32⟩
  | 33 => ⟨S8x59x137, .f32⟩
  | 34 => ⟨S_, .f32⟩
  | 35 => ⟨S_, .f32⟩
  | 36 => ⟨S8x59x137, .f32⟩
  | 37 => ⟨S8x59x137, .f32⟩
  | 38 => ⟨S_, .f32⟩
  | 39 => ⟨S8x137, .f32⟩
  | 40 => ⟨S_, .f32⟩
  | 41 => ⟨S8x137, .f32⟩
  | 42 => ⟨S8x137, .i1⟩
  | 43 => ⟨S_, .f32⟩
  | 44 => ⟨S_, .f32⟩
  | 45 => ⟨S8x137, .f32⟩
  | 46 => ⟨S8x137, .f32⟩
  | 47 => ⟨S8x137x1, .f32⟩
  | 48 => ⟨S_, .f32⟩
  | 49 => ⟨S8x137x1, .f32⟩
  | 50 => ⟨S8x137x1, .f32⟩
  | 51 => ⟨S8x137x768, .f32⟩
  | 52 => ⟨S8x137x768, .f32⟩
  | 53 => ⟨S8x137x768, .f32⟩
  | 54 => ⟨S8x137x768, .f32⟩
  | 55 => ⟨S8x137x768, .f32⟩
  | _ => ⟨S8x77x768, .f32⟩

abbrev hbmTy (i : Nat) : BufTy := match i / 128 with
  | 0 => hbmTy0_0 i
  | 1 => hbmTy0_1 i
  | _ => ⟨S8x77x768, .f32⟩

abbrev bufTy : (tb : Table) → Fin (tcTables nBuf tb) → BufTy
  | .hbm, ⟨i, _⟩ => hbmTy i
  | _, _ => ⟨S8x77x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_call0_v0 : Ref sig .tc := ⟨.hbm, 45, rfl⟩
abbrev main_call0_v1 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_values : Ref sig .tc := ⟨.hbm, 69, rfl⟩
abbrev main_indices : Ref sig .tc := ⟨.hbm, 70, rfl⟩
abbrev main_v52 : Ref sig .tc := ⟨.hbm, 71, rfl⟩
abbrev main_values_7 : Ref sig .tc := ⟨.hbm, 72, rfl⟩
abbrev main_indices_8 : Ref sig .tc := ⟨.hbm, 73, rfl⟩
abbrev main_v53 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v54 : Ref sig .tc := ⟨.hbm, 82, rfl⟩
abbrev main_v55 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v56 : Ref sig .tc := ⟨.hbm, 91, rfl⟩
abbrev main_call3_v0 : Ref sig .tc := ⟨.hbm, 92, rfl⟩
abbrev main_call3_cst : Ref sig .tc := ⟨.hbm, 93, rfl⟩
abbrev main_call3_v1 : Ref sig .tc := ⟨.hbm, 94, rfl⟩
abbrev main_call3_v2 : Ref sig .tc := ⟨.hbm, 95, rfl⟩
abbrev main_v57 : Ref sig .tc := ⟨.hbm, 96, rfl⟩
abbrev main_cst_9 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call4_v0 : Ref sig .tc := ⟨.hbm, 102, rfl⟩
abbrev main_call4_cst : Ref sig .tc := ⟨.hbm, 103, rfl⟩
abbrev main_call4_v1 : Ref sig .tc := ⟨.hbm, 104, rfl⟩
abbrev main_call4_v2 : Ref sig .tc := ⟨.hbm, 105, rfl⟩
abbrev main_v62 : Ref sig .tc := ⟨.hbm, 106, rfl⟩
abbrev main_cst_10 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_11 : Ref sig .tc := ⟨.hbm, 114, rfl⟩
abbrev main_v69 : Ref sig .tc := ⟨.hbm, 115, rfl⟩
abbrev main_values_12 : Ref sig .tc := ⟨.hbm, 116, rfl⟩
abbrev main_indices_13 : Ref sig .tc := ⟨.hbm, 117, rfl⟩
abbrev main_v70 : Ref sig .tc := ⟨.hbm, 118, rfl⟩
abbrev main_v71 : Ref sig .tc := ⟨.hbm, 119, rfl⟩
abbrev main_cst_14 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_v75 : Ref sig .tc := ⟨.hbm, 129, rfl⟩
abbrev main_v76 : Ref sig .tc := ⟨.hbm, 130, rfl⟩
abbrev main_cst_15 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_16 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v81 : Ref sig .tc := ⟨.hbm, 140, rfl⟩
abbrev main_cst_17 : Ref sig .tc := ⟨.hbm, 141, rfl⟩
abbrev main_v82 : Ref sig .tc := ⟨.hbm, 142, rfl⟩
abbrev main_cst_18 : Ref sig .tc := ⟨.hbm, 143, rfl⟩
abbrev main_v83 : Ref sig .tc := ⟨.hbm, 144, rfl⟩
abbrev main_v84 : Ref sig .tc := ⟨.hbm, 145, rfl⟩
abbrev main_cst_19 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_20 : Ref sig .tc := ⟨.hbm, 151, rfl⟩
abbrev main_call7_v0 : Ref sig .tc := ⟨.hbm, 152, rfl⟩
abbrev main_call7_v1 : Ref sig .tc := ⟨.hbm, 153, rfl⟩
abbrev main_call7_v2 : Ref sig .tc := ⟨.hbm, 154, rfl⟩
abbrev main_v89 : Ref sig .tc := ⟨.hbm, 155, rfl⟩
abbrev main_cst_21 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_22 : Ref sig .tc := ⟨.hbm, 162, rfl⟩
abbrev main_call8_v0 : Ref sig .tc := ⟨.hbm, 163, rfl⟩
abbrev main_call8_v1 : Ref sig .tc := ⟨.hbm, 164, rfl⟩
abbrev main_v95 : Ref sig .tc := ⟨.hbm, 165, rfl⟩
abbrev main_cst_23 : Ref sig .tc := ⟨.hbm, 166, rfl⟩
abbrev main_v96 : Ref sig .tc := ⟨.hbm, 167, rfl⟩
abbrev main_cst_24 : Ref sig .tc := ⟨.hbm, 168, rfl⟩
abbrev main_v97 : Ref sig .tc := ⟨.hbm, 169, rfl⟩
abbrev main_v98 : Ref sig .tc := ⟨.hbm, 170, rfl⟩
abbrev main_cst_25 : Ref sig .tc := ⟨.hbm, 171, rfl⟩
abbrev main_call9_v0 : Ref sig .tc := ⟨.hbm, 172, rfl⟩
abbrev main_call9_v1 : Ref sig .tc := ⟨.hbm, 173, rfl⟩
abbrev main_v99 : Ref sig .tc := ⟨.hbm, 174, rfl⟩
abbrev main_v100 : Ref sig .tc := ⟨.hbm, 175, rfl⟩
abbrev main_cst_26 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩

abbrev nD : Nat := 1
abbrev τ : Topo := Topo.v7x

variable {F : FTy → Type} [FloatOps F]
-- ==== Proof.Stages.lean ====
/-
  The kernel's stages by name, as its program prints them: a head's row of scores, the mean over the heads, the ranks and
  the one-hot matrices they give, and the merge of one batch. Each is a function of values, at any float type.
-/
module

public import proofs.«01_k».proof.Proof.Gen.KernelIdeal.Frame

@[expose] public section

noncomputable section

namespace Cert.KernelIdeal.Stages

open Cert.KernelIdeal Cert.KernelIdeal.Gen Idealize.ShloMosaic Idealize.ShloMosaic.TcCoe

variable {F : FTy → Type} [FloatOps F]

/-! ## The scores -/

/-- Three heads' matrices side by side. -/
def cat3 (w0 w1 w2 : FVec F S1x768x64 .f32) : FVec F S768x192 .f32 :=
  concatenate S768x192 1 [⟨S768x64, shapeCast S768x64 w0 shapeCasts_S1x768x64_S768x64⟩,
    ⟨S768x64, shapeCast S768x64 w1 shapeCasts_S1x768x64_S768x64⟩,
    ⟨S768x64, shapeCast S768x64 w2 shapeCasts_S1x768x64_S768x64⟩] concatenates_S768x64_S768x64_S768x64_S768x192_d1

/-- The patches of one image through three heads' matrices. -/
def keys (img : FVec F S1x196x768 .f32) (w0 w1 w2 : FVec F S1x768x64 .f32) : FVec F S196x192 .f32 :=
  matmul dot_S196x768_S768x192_S196x192_1_0_0_1_n_n none (shapeCast S196x768 img shapeCasts_S1x196x768_S196x768)
    (cat3 w0 w1 w2) (constant S196x192 .f32 0x00000000#32)

/-- The text query of one batch through three heads' matrices. -/
def queries (q : FVec F S1x768 .f32) (w0 w1 w2 : FVec F S1x768x64 .f32) : FVec F S1x192 .f32 :=
  matmul dot_S1x768_S768x192_S1x192_1_0_0_1_n_n none (shapeCast S1x768 q shapeCasts_S1x768_S1x768)
    (cat3 w0 w1 w2) (constant S1x192 .f32 0x00000000#32)

/-- The scaled products of a query with the keys. -/
def logits (q : FVec F S1x64 .f32) (k : FVec F S196x64 .f32) : FVec F S1x196 .f32 :=
  divf (matmul dot_S1x64_S196x64_S1x196_1_1_0_0_n_n none q k (constant S1x196 .f32 0x00000000#32))
    (broadcast S1x196 (Scalar.ofBits .f32 0x41000000#32 : F .f32))

/-- The exponentials of a row, its greatest entry subtracted. -/
def expRow (l : FVec F S1x196 .f32) : FVec F S1x196 .f32 :=
  exp (subf l (broadcastTo S1x196 (shapeCast S1x1 (multiReduction .maximumf [1] S1 l 0xFF800000#32 reduces_S1x196_S1 (.inl rfl) rfl)
    shapeCasts_S1_S1x1) broadcasts_S1x1_S1x196))

/-- A row divided by its sum. -/
def overSum (e : FVec F S1x196 .f32) : FVec F S1x196 .f32 :=
  divf e (broadcastTo S1x196 (shapeCast S1x1 (multiReduction .add [1] S1 e 0x00000000#32 reduces_S1x196_S1 (.inl rfl) rfl)
    shapeCasts_S1_S1x1) broadcasts_S1x1_S1x196)

/-- The softmax of the scaled products at one head of three, which starts at column `off`. -/
def headRow (off : Nat) (hk : S196x192.Slices ![0, off] S196x64) (hq : S1x192.Slices ![0, off] S1x64)
    (k : FVec F S196x192 .f32) (q : FVec F S1x192 .f32) : FVec F S1x196 .f32 :=
  overSum (expRow (logits (extractStridedSlice S1x64 ![0, off] q hq) (extractStridedSlice S196x64 ![0, off] k hk)))

/-- The mean of twelve rows. -/
def mean12 (a0 a1 a2 a3 a4 a5 a6 a7 a8 a9 a10 a11 : FVec F S1x196 .f32) : FVec F S1x196 .f32 :=
  divf (addf (addf (addf (addf (addf (addf (addf (addf (addf (addf (addf a0 a1) a2) a3) a4) a5) a6) a7) a8) a9) a10) a11)
    (broadcast S1x196 (Scalar.ofBits .f32 0x41400000#32 : F .f32))

/-- The first of the three heads of a pair of products. -/
abbrev head0 (k : FVec F S196x192 .f32) (q : FVec F S1x192 .f32) : FVec F S1x196 .f32 :=
  headRow 0 slices_S196x192_o0_0_S196x64 slices_S1x192_o0_0_S1x64 k q
/-- The second. -/
abbrev head1 (k : FVec F S196x192 .f32) (q : FVec F S1x192 .f32) : FVec F S1x196 .f32 :=
  headRow 64 slices_S196x192_o0_64_S196x64 slices_S1x192_o0_64_S1x64 k q
/-- The third. -/
abbrev head2 (k : FVec F S196x192 .f32) (q : FVec F S1x192 .f32) : FVec F S1x196 .f32 :=
  headRow 128 slices_S196x192_o0_128_S196x64 slices_S1x192_o0_128_S1x64 k q

/-! ## The one-hot matrices -/

/-- The column `s` spread over the columns of a square. -/
def colOf (s : FVec F S1x196 .f32) : FVec F S196x196 .f32 :=
  broadcastTo S196x196 (shapeCast S196x1 (matmul dot_S196x196_S1x196_S196x1_1_1_0_0_n_n (some .fp32)
    (sitofp .f32 (extui 32 (cmpi .eq (iota .tc S196x196 32 [0] iota_S196x196_d0_w32)
      (iota .tc S196x196 32 [1] iota_S196x196_d1_w32)) natLt_1_32)) s (constant S196x1 .f32 0x00000000#32))
    shapeCasts_S196x1_S196x1) broadcasts_S196x1_S196x196

/-- The row `s` spread over the rows of a square. -/
def rowOf (s : FVec F S1x196 .f32) : FVec F S196x196 .f32 :=
  broadcastTo S196x196 (shapeCast S1x196 s shapeCasts_S1x196_S1x196) broadcasts_S1x196_S196x196

/-- Which patch goes before which: the higher score, or the lower index of equals. -/
def goesBefore (s : FVec F S1x196 .f32) : IVec S196x196 1 :=
  ori (cmpf .ogt (colOf s) (rowOf s)) (andi (cmpf .oeq (colOf s) (rowOf s))
    (cmpi .slt (iota .tc S196x196 32 [0] iota_S196x196_d0_w32) (iota .tc S196x196 32 [1] iota_S196x196_d1_w32)))

/-- How many patches go before each. -/
def ranks (s : FVec F S1x196 .f32) : FVec F S1x196 .f32 :=
  shapeCast S1x196 (multiReduction .add [0] S196 (sitofp .f32 (extui 32 (goesBefore s) natLt_1_32)) 0x00000000#32
    reduces_S196x196_S196 (.inl rfl) rfl) shapeCasts_S196_S1x196

/-- Row `k` selects the patch of rank `k`. -/
def hotStrong (s : FVec F S1x196 .f32) : FVec F S137x196 .f32 :=
  sitofp .f32 (extui 32 (cmpf .oeq (sitofp .f32 (iota .tc S137x196 32 [0] iota_S137x196_d0_w32))
    (broadcastTo S137x196 (shapeCast S1x196 (ranks s) shapeCasts_S1x196_S1x196) broadcasts_S1x196_S137x196)) natLt_1_32)

/-- Row `k` selects the patch of rank `k + 137`. -/
def hotWeak (s : FVec F S1x196 .f32) : FVec F S59x196 .f32 :=
  sitofp .f32 (extui 32 (cmpf .oeq (addf (sitofp .f32 (iota .tc S59x196 32 [0] iota_S59x196_d0_w32))
      (broadcast S59x196 (Scalar.ofBits .f32 0x43090000#32 : F .f32)))
    (broadcastTo S59x196 (shapeCast S1x196 (ranks s) shapeCasts_S1x196_S1x196) broadcasts_S1x196_S59x196)) natLt_1_32)

/-! ## One batch -/

/-- The strong patches of an image. -/
def strongOf (hot : FVec F S137x196 .f32) (img : FVec F S1x196x768 .f32) : FVec F S137x768 .f32 :=
  matmul dot_S137x196_S196x768_S137x768_1_0_0_1_n_n (some .fp32) hot
    (shapeCast S196x768 img shapeCasts_S1x196x768_S196x768) (constant S137x768 .f32 0x00000000#32)

/-- The weak patches of an image. -/
def weakOf (hot : FVec F S59x196 .f32) (img : FVec F S1x196x768 .f32) : FVec F S59x768 .f32 :=
  matmul dot_S59x196_S196x768_S59x768_1_0_0_1_n_n (some .fp32) hot
    (shapeCast S196x768 img shapeCasts_S1x196x768_S196x768) (constant S59x768 .f32 0x00000000#32)

/-- The strong patches, each over its length. -/
def unitStrong (v : FVec F S137x768 .f32) : FVec F S137x768 .f32 :=
  divf v (broadcastTo S137x768 (maximumf (sqrt (shapeCast S137x1 (multiReduction .add [1] S137 (mulf v v) 0x00000000#32
    reduces_S137x768_S137 (.inl rfl) rfl) shapeCasts_S137_S137x1)) (broadcast S137x1 (Scalar.ofBits .f32 0x2B8CBCCC#32 : F .f32)))
    broadcasts_S137x1_S137x768)

/-- The weak patches, each over its length. -/
def unitWeak (v : FVec F S59x768 .f32) : FVec F S59x768 .f32 :=
  divf v (broadcastTo S59x768 (maximumf (sqrt (shapeCast S59x1 (multiReduction .add [1] S59 (mulf v v) 0x00000000#32
    reduces_S59x768_S59 (.inl rfl) rfl) shapeCasts_S59_S59x1)) (broadcast S59x1 (Scalar.ofBits .f32 0x2B8CBCCC#32 : F .f32)))
    broadcasts_S59x1_S59x768)

/-- The likeness of each weak patch to each strong one. -/
def likeness (w : FVec F S59x768 .f32) (s : FVec F S137x768 .f32) : FVec F S59x137 .f32 :=
  matmul dot_S59x768_S137x768_S59x137_1_1_0_0_n_n none (unitWeak w) (unitStrong s) (constant S59x137 .f32 0x00000000#32)

/-- Each weak patch's greatest likeness. -/
def bestOf (sim : FVec F S59x137 .f32) : FVec F S59x1 .f32 :=
  shapeCast S59x1 (multiReduction .maximumf [1] S59 sim 0xFF800000#32 reduces_S59x137_S59 (.inl rfl) rfl) shapeCasts_S59_S59x1

/-- The first strong patch at which the greatest likeness is reached. -/
def assignOf (sim : FVec F S59x137 .f32) : FVec F S59x1 .f32 :=
  shapeCast S59x1 (multiReduction .minimumf [1] S59
    (select (cmpf .oeq sim (broadcastTo S59x137 (bestOf sim) broadcasts_S59x1_S59x137))
      (sitofp .f32 (iota .tc S59x137 32 [1] iota_S59x137_d1_w32)) (broadcast S59x137 (Scalar.ofBits .f32 0x4E6E6B28#32 : F .f32)))
    0x7F800000#32 reduces_S59x137_S59 (.inl rfl) rfl) shapeCasts_S59_S59x1

/-- The weight with which a weak patch is merged. -/
def weightOf (best : FVec F S59x1 .f32) : FVec F S59x1 .f32 :=
  divf (exp best) (addf (exp best) (broadcast S59x1 (Scalar.ofBits .f32 0x402DF854#32 : F .f32)))

/-- A column of the weak patches as a row. -/
def asRow (a : FVec F S59x1 .f32) : FVec F S1x59 .f32 :=
  matmul dot_S1x1_S59x1_S1x59_1_1_0_0_n_n (some .fp32) (broadcast S1x1 (Scalar.ofBits .f32 0x3F800000#32 : F .f32)) a
    (constant S1x59 .f32 0x00000000#32)

/-- The weak patches' keys down the rows of a square. -/
def keyCols (a : FVec F S59x1 .f32) : FVec F S59x59 .f32 :=
  broadcastTo S59x59 (shapeCast S59x1 a shapeCasts_S59x1_S59x1) broadcasts_S59x1_S59x59

/-- The weak patches' keys along the columns of a square. -/
def keyRows (a : FVec F S59x1 .f32) : FVec F S59x59 .f32 :=
  broadcastTo S59x59 (shapeCast S1x59 (asRow a) shapeCasts_S1x59_S1x59) broadcasts_S1x59_S59x59

/-- Which weak patch is sorted before which: the lower key, or the lower index of equals. -/
def sortsBefore (a : FVec F S59x1 .f32) : IVec S59x59 1 :=
  ori (cmpf .olt (keyCols a) (keyRows a)) (andi (cmpf .oeq (keyCols a) (keyRows a))
    (cmpi .slt (iota .tc S59x59 32 [0] iota_S59x59_d0_w32) (iota .tc S59x59 32 [1] iota_S59x59_d1_w32)))

/-- The matrix that sorts the weak patches by their keys. -/
def sorter (a : FVec F S59x1 .f32) : FVec F S59x59 .f32 :=
  sitofp .f32 (extui 32 (cmpf .oeq (sitofp .f32 (iota .tc S59x59 32 [0] iota_S59x59_d0_w32) : FVec F S59x59 .f32)
    (broadcastTo S59x59 (shapeCast S1x59 (shapeCast S1x59 (multiReduction .add [0] S59
      (sitofp .f32 (extui 32 (sortsBefore a) natLt_1_32) : FVec F S59x59 .f32) 0x00000000#32 reduces_S59x59_S59 (.inl rfl) rfl) shapeCasts_S59_S1x59)
      shapeCasts_S1x59_S1x59) broadcasts_S1x59_S59x59)) natLt_1_32)

/-- The sorted rows of a matrix. -/
def sortRows (p : FVec F S59x59 .f32) (v : FVec F S59x768 .f32) : FVec F S59x768 .f32 :=
  matmul dot_S59x59_S59x768_S59x768_1_0_0_1_n_n (some .fp32) p v (constant S59x768 .f32 0x00000000#32)

/-- The sorted entries of a column. -/
def sortCol (p : FVec F S59x59 .f32) (a : FVec F S59x1 .f32) : FVec F S59x1 .f32 :=
  matmul dot_S59x59_S59x1_S59x1_1_0_0_1_n_n (some .fp32) p a (constant S59x1 .f32 0x00000000#32)

/-! ### The running maximum, one doubling -/

/-- What one doubling needs of its shapes: a matrix or a column of 59 rows is `t` new rows over its first `n`. -/
structure Cut (t n : Nat) : Prop where
  sliceV : S59x768.Slices ![0, 0] ⟨2, ![n, 768]⟩
  catV : Shape.Concatenates [⟨2, ![t, 768]⟩, ⟨2, ![n, 768]⟩] S59x768 0
  sliceC : S59x1.Slices ![0, 0] ⟨2, ![n, 1]⟩
  catC : Shape.Concatenates [⟨2, ![t, 1]⟩, ⟨2, ![n, 1]⟩] S59x1 0

/-- A matrix pushed down by `t` rows. -/
def downV {t n : Nat} (h : Cut t n) (v : FVec F S59x768 .f32) : FVec F S59x768 .f32 :=
  concatenate S59x768 0 [⟨⟨2, ![t, 768]⟩, broadcast ⟨2, ![t, 768]⟩ (Scalar.ofBits .f32 0xC61C4000#32 : F .f32)⟩,
    ⟨⟨2, ![n, 768]⟩, extractStridedSlice ⟨2, ![n, 768]⟩ ![0, 0] v h.sliceV⟩] h.catV

/-- A column pushed down by `t` rows. -/
def downC {t n : Nat} (h : Cut t n) (a : FVec F S59x1 .f32) : FVec F S59x1 .f32 :=
  concatenate S59x1 0 [⟨⟨2, ![t, 1]⟩, broadcast ⟨2, ![t, 1]⟩ (Scalar.ofBits .f32 0xBF800000#32 : F .f32)⟩,
    ⟨⟨2, ![n, 1]⟩, extractStridedSlice ⟨2, ![n, 1]⟩ ![0, 0] a h.sliceC⟩] h.catC

/-- The rows whose key is that of the row `t` above. -/
def same {t n : Nat} (h : Cut t n) (k : FVec F S59x1 .f32) : IVec S59x1 1 := cmpf .oeq (downC h k) k

/-- One doubling of the running maximum over rows of one key. -/
def stepV {t n : Nat} (h : Cut t n) (k : FVec F S59x1 .f32) (v : FVec F S59x768 .f32) : FVec F S59x768 .f32 :=
  select (broadcastTo S59x768 (shapeCast S59x1 (same h k) shapeCasts_S59x1_S59x1) broadcasts_S59x1_S59x768)
    (maximumf v (downV h v)) v

/-- The same of a column. -/
def stepC {t n : Nat} (h : Cut t n) (k a : FVec F S59x1 .f32) : FVec F S59x1 .f32 :=
  select (same h k) (maximumf a (downC h a)) a

/-- The move by 1. -/
theorem cut1 : Cut 1 58 := ⟨slices_S59x768_o0_0_S58x768, concatenates_S1x768_S58x768_S59x768_d0, slices_S59x1_o0_0_S58x1,
  concatenates_S1x1_S58x1_S59x1_d0⟩
/-- The move by 2. -/
theorem cut2 : Cut 2 57 := ⟨slices_S59x768_o0_0_S57x768, concatenates_S2x768_S57x768_S59x768_d0, slices_S59x1_o0_0_S57x1,
  concatenates_S2x1_S57x1_S59x1_d0⟩
/-- The move by 4. -/
theorem cut4 : Cut 4 55 := ⟨slices_S59x768_o0_0_S55x768, concatenates_S4x768_S55x768_S59x768_d0, slices_S59x1_o0_0_S55x1,
  concatenates_S4x1_S55x1_S59x1_d0⟩
/-- The move by 8. -/
theorem cut8 : Cut 8 51 := ⟨slices_S59x768_o0_0_S51x768, concatenates_S8x768_S51x768_S59x768_d0, slices_S59x1_o0_0_S51x1,
  concatenates_S8x1_S51x1_S59x1_d0⟩
/-- The move by 16. -/
theorem cut16 : Cut 16 43 := ⟨slices_S59x768_o0_0_S43x768, concatenates_S16x768_S43x768_S59x768_d0,
  slices_S59x1_o0_0_S43x1, concatenates_S16x1_S43x1_S59x1_d0⟩
/-- The move by 32. -/
theorem cut32 : Cut 32 27 := ⟨slices_S59x768_o0_0_S27x768, concatenates_S32x768_S27x768_S59x768_d0,
  slices_S59x1_o0_0_S27x1, concatenates_S32x1_S27x1_S59x1_d0⟩

/-- The running maximum of the rows, after every doubling. -/
def runV (k : FVec F S59x1 .f32) (v : FVec F S59x768 .f32) : FVec F S59x768 .f32 :=
  stepV cut32 k (stepV cut16 k (stepV cut8 k (stepV cut4 k (stepV cut2 k (stepV cut1 k v)))))

/-- The running maximum of the entries, after every doubling. -/
def runC (k a : FVec F S59x1 .f32) : FVec F S59x1 .f32 :=
  stepC cut32 k (stepC cut16 k (stepC cut8 k (stepC cut4 k (stepC cut2 k (stepC cut1 k a)))))

/-! ### The end of each run, and the merge -/

/-- The rows after which the key changes. -/
def runEnds (k : FVec F S59x1 .f32) : IVec S59x1 1 :=
  cmpf .one k (concatenate S59x1 0 [⟨S58x1, extractStridedSlice S58x1 ![1, 0] k slices_S59x1_o1_0_S58x1⟩,
    ⟨S1x1, broadcast S1x1 (Scalar.ofBits .f32 0xBF800000#32 : F .f32)⟩] concatenates_S58x1_S1x1_S59x1_d0)

/-- Row `k` selects the last sorted weak patch of key `k`. -/
def picker (k : FVec F S59x1 .f32) : FVec F S137x59 .f32 :=
  sitofp .f32 (extui 32 (andi
    (cmpf .oeq (broadcastTo S137x59 (sitofp .f32 (iota .tc S137x1 32 [0] iota_S137x1_d0_w32) : FVec F S137x1 .f32) broadcasts_S137x1_S137x59)
      (broadcastTo S137x59 (shapeCast S1x59 (asRow k) shapeCasts_S1x59_S1x59) broadcasts_S1x59_S137x59))
    (cmpf .ogt (broadcastTo S137x59 (shapeCast S1x59 (asRow (sitofp .f32 (extui 32 (runEnds k) natLt_1_32) : FVec F S59x1 .f32))
      shapeCasts_S1x59_S1x59) broadcasts_S1x59_S137x59) (broadcast S137x59 (Scalar.ofBits .f32 0x00000000#32 : F .f32)))) natLt_1_32)

/-- The rows a picker selects. -/
def pickRows (p : FVec F S137x59 .f32) (v : FVec F S59x768 .f32) : FVec F S137x768 .f32 :=
  matmul dot_S137x59_S59x768_S137x768_1_0_0_1_n_n (some .fp32) p v (constant S137x768 .f32 0x00000000#32)

/-- The entries a picker selects. -/
def pickCol (p : FVec F S137x59 .f32) (a : FVec F S59x1 .f32) : FVec F S137x1 .f32 :=
  matmul dot_S137x59_S59x1_S137x1_1_0_0_1_n_n (some .fp32) p a (constant S137x1 .f32 0x00000000#32)

/-- Each strong patch mixed with what its weak patches give, by the weight `th`. -/
def mix (th : FVec F S137x1 .f32) (s att : FVec F S137x768 .f32) : FVec F S137x768 .f32 :=
  addf (mulf (broadcastTo S137x768 (subf (broadcast S137x1 (Scalar.ofBits .f32 0x3F800000#32 : F .f32)) th) broadcasts_S137x1_S137x768) s)
    (mulf (broadcastTo S137x768 th broadcasts_S137x1_S137x768) att)

/-- The merge, from the likenesses on. -/
def mergeSim (s : FVec F S137x768 .f32) (w : FVec F S59x768 .f32) (sim : FVec F S59x137 .f32) : FVec F S137x768 .f32 :=
  mix (pickCol (picker (sortCol (sorter (assignOf sim)) (assignOf sim)))
      (runC (sortCol (sorter (assignOf sim)) (assignOf sim)) (sortCol (sorter (assignOf sim)) (weightOf (bestOf sim)))))
    s (pickRows (picker (sortCol (sorter (assignOf sim)) (assignOf sim)))
      (runV (sortCol (sorter (assignOf sim)) (assignOf sim)) (sortRows (sorter (assignOf sim)) w)))

/-- One batch's output, from the scores and the image. -/
def batchOut (sc : FVec F S1x196 .f32) (img : FVec F S1x196x768 .f32) : FVec F S1x137x768 .f32 :=
  shapeCast S1x137x768 (mergeSim (strongOf (hotStrong sc) img) (weakOf (hotWeak sc) img)
    (likeness (weakOf (hotWeak sc) img) (strongOf (hotStrong sc) img))) shapeCasts_S137x768_S1x137x768

/-! ## What the kernel stores -/

variable (x0 : Vec F S8x768 .f32) (x1 : Vec F S8x196x768 .f32) (x2 x3 : Vec F S12x768x64 .f32)

/-- Batch 0's keys, at heads 0, 4 and 8. -/
def k0 : FVec F S196x192 .f32 := keys (View.ld x1 r0_3) (View.ld x3 r0_0) (View.ld x3 r0_1) (View.ld x3 r0_2)
/-- Batch 0's queries, at the same heads. -/
def q0 : FVec F S1x192 .f32 := queries (View.ld x0 r0_4) (View.ld x2 r0_0) (View.ld x2 r0_1) (View.ld x2 r0_2)
/-- Batch 1's keys, at heads 1, 5 and 9. -/
def k1 : FVec F S196x192 .f32 := keys (View.ld x1 r0_8) (View.ld x3 r0_5) (View.ld x3 r0_6) (View.ld x3 r0_7)
/-- Batch 1's queries, at the same heads. -/
def q1 : FVec F S1x192 .f32 := queries (View.ld x0 r0_9) (View.ld x2 r0_5) (View.ld x2 r0_6) (View.ld x2 r0_7)
/-- Batch 2's keys, at heads 2, 6 and 10. -/
def k2 : FVec F S196x192 .f32 := keys (View.ld x1 r0_13) (View.ld x3 r0_10) (View.ld x3 r0_11) (View.ld x3 r0_12)
/-- Batch 2's queries, at the same heads. -/
def q2 : FVec F S1x192 .f32 := queries (View.ld x0 r0_14) (View.ld x2 r0_10) (View.ld x2 r0_11) (View.ld x2 r0_12)
/-- Batch 3's keys, at heads 3, 7 and 11. -/
def k3 : FVec F S196x192 .f32 := keys (View.ld x1 r0_18) (View.ld x3 r0_15) (View.ld x3 r0_16) (View.ld x3 r0_17)
/-- Batch 3's queries, at the same heads. -/
def q3 : FVec F S1x192 .f32 := queries (View.ld x0 r0_19) (View.ld x2 r0_15) (View.ld x2 r0_16) (View.ld x2 r0_17)
/-- Batch 4's keys, at heads 0, 4 and 8. -/
def k4 : FVec F S196x192 .f32 := keys (View.ld x1 r0_20) (View.ld x3 r0_0) (View.ld x3 r0_1) (View.ld x3 r0_2)
/-- Batch 4's queries, at the same heads. -/
def q4 : FVec F S1x192 .f32 := queries (View.ld x0 r0_21) (View.ld x2 r0_0) (View.ld x2 r0_1) (View.ld x2 r0_2)
/-- Batch 5's keys, at heads 1, 5 and 9. -/
def k5 : FVec F S196x192 .f32 := keys (View.ld x1 r0_22) (View.ld x3 r0_5) (View.ld x3 r0_6) (View.ld x3 r0_7)
/-- Batch 5's queries, at the same heads. -/
def q5 : FVec F S1x192 .f32 := queries (View.ld x0 r0_23) (View.ld x2 r0_5) (View.ld x2 r0_6) (View.ld x2 r0_7)
/-- Batch 6's keys, at heads 2, 6 and 10. -/
def k6 : FVec F S196x192 .f32 := keys (View.ld x1 r0_24) (View.ld x3 r0_10) (View.ld x3 r0_11) (View.ld x3 r0_12)
/-- Batch 6's queries, at the same heads. -/
def q6 : FVec F S1x192 .f32 := queries (View.ld x0 r0_25) (View.ld x2 r0_10) (View.ld x2 r0_11) (View.ld x2 r0_12)
/-- Batch 7's keys, at heads 3, 7 and 11. -/
def k7 : FVec F S196x192 .f32 := keys (View.ld x1 r0_26) (View.ld x3 r0_15) (View.ld x3 r0_16) (View.ld x3 r0_17)
/-- Batch 7's queries, at the same heads. -/
def q7 : FVec F S1x192 .f32 := queries (View.ld x0 r0_27) (View.ld x2 r0_15) (View.ld x2 r0_16) (View.ld x2 r0_17)

/-- The scores of the even batches. -/
def score0 : FVec F S1x196 .f32 :=
  mean12 (head0 (k0 x1 x3) (q0 x0 x2)) (head0 (k1 x1 x3) (q1 x0 x2)) (head0 (k2 x1 x3) (q2 x0 x2))
    (head0 (k3 x1 x3) (q3 x0 x2)) (head1 (k4 x1 x3) (q4 x0 x2)) (head1 (k5 x1 x3) (q5 x0 x2))
    (head1 (k6 x1 x3) (q6 x0 x2)) (head1 (k7 x1 x3) (q7 x0 x2)) (head2 (k0 x1 x3) (q0 x0 x2))
    (head2 (k1 x1 x3) (q1 x0 x2)) (head2 (k2 x1 x3) (q2 x0 x2)) (head2 (k3 x1 x3) (q3 x0 x2))

/-- The scores of the odd batches. -/
def score1 : FVec F S1x196 .f32 :=
  mean12 (head0 (k4 x1 x3) (q4 x0 x2)) (head0 (k5 x1 x3) (q5 x0 x2)) (head0 (k6 x1 x3) (q6 x0 x2))
    (head0 (k7 x1 x3) (q7 x0 x2)) (head1 (k0 x1 x3) (q0 x0 x2)) (head1 (k1 x1 x3) (q1 x0 x2))
    (head1 (k2 x1 x3) (q2 x0 x2)) (head1 (k3 x1 x3) (q3 x0 x2)) (head2 (k4 x1 x3) (q4 x0 x2))
    (head2 (k5 x1 x3) (q5 x0 x2)) (head2 (k6 x1 x3) (q6 x0 x2)) (head2 (k7 x1 x3) (q7 x0 x2))

set_option maxHeartbeats 4000000 in
set_option maxRecDepth 65536 in
/-- The kernel's output block holds the eight batches' outputs. -/
theorem out_eq : out0_4 x0 x1 x2 x3 = View.canon [⟨r0_35, batchOut (score1 x0 x1 x2 x3) (View.ld x1 r0_26)⟩,
    ⟨r0_34, batchOut (score0 x0 x1 x2 x3) (View.ld x1 r0_24)⟩,
    ⟨r0_33, batchOut (score1 x0 x1 x2 x3) (View.ld x1 r0_22)⟩,
    ⟨r0_32, batchOut (score0 x0 x1 x2 x3) (View.ld x1 r0_20)⟩,
    ⟨r0_31, batchOut (score1 x0 x1 x2 x3) (View.ld x1 r0_18)⟩,
    ⟨r0_30, batchOut (score0 x0 x1 x2 x3) (View.ld x1 r0_13)⟩,
    ⟨r0_29, batchOut (score1 x0 x1 x2 x3) (View.ld x1 r0_8)⟩,
    ⟨r0_28, batchOut (score0 x0 x1 x2 x3) (View.ld x1 r0_3)⟩] := rfl

end Cert.KernelIdeal.Stages

end
-- ==== Proof.Order.lean ====
/-
  Ranks under a strict total order of a finite index range, the two orders the programs sort by, and the pooling of the
  entries that share a key.
-/
module

public import Idealize.ShloMosaic.PureOps.Ideal.Laws

@[expose] public section

noncomputable section

namespace Cert.Merge

open Finset

/-! ## Natural numbers among the extended reals -/

/-- A natural number as an extended real. -/
def nr (n : ℕ) : EReal := ((n : ℝ) : EReal)

/-- Different numbers are different reals. -/
theorem nr_inj {a b : ℕ} : nr a = nr b ↔ a = b := by simp [nr]
/-- The order of numbers is the order of the reals. -/
theorem nr_lt {a b : ℕ} : nr a < nr b ↔ a < b := by simp [nr]
/-- The same with equality. -/
theorem nr_le {a b : ℕ} : nr a ≤ nr b ↔ a ≤ b := by simp [nr]
/-- Sums are kept. -/
theorem nr_add (a b : ℕ) : nr a + nr b = nr (a + b) := by simp [nr]
/-- Zero is zero. -/
theorem nr_zero : nr 0 = 0 := by simp [nr]
/-- One is one. -/
theorem nr_one : nr 1 = 1 := by simp [nr]

/-- A sum of ones and zeros counts the ones. -/
theorem sum_ite_nr {ι : Type} [Fintype ι] (p : ι → Prop) [DecidablePred p] :
    ∑ i, (if p i then (1 : EReal) else 0) = nr (univ.filter p).card := by
  rw [← Finset.sum_filter]
  generalize univ.filter p = s
  induction s using Finset.cons_induction with
  | empty => simp [nr]
  | cons a s ha ih => rw [Finset.sum_cons, ih, Finset.card_cons, Nat.add_comm, ← nr_add, nr_one]

/-- A row that is one at `p` and zero elsewhere selects the entry at `p`. -/
theorem sum_hot {ι : Type} [Fintype ι] (q : ι → Prop) [DecidablePred q] (p : ι) (hp : ∀ i, q i ↔ i = p) (f : ι → EReal) :
    ∑ i, (if q i then (1 : EReal) else 0) * f i = f p := by
  rw [Finset.sum_eq_single p, if_pos ((hp p).mpr rfl), one_mul]
  · intro i _ hi; rw [if_neg (fun h => hi ((hp i).mp h)), zero_mul]
  · intro h; exact absurd (mem_univ p) h

/-! ## Ranks -/

section Rank
variable {N : ℕ} (r : Fin N → Fin N → Prop)

/-- What a strict total order satisfies. -/
structure Strict : Prop where
  irrefl : ∀ a, ¬ r a a
  trans : ∀ a b c, r a b → r b c → r a c
  total : ∀ a b, a ≠ b → r a b ∨ r b a

open Classical in
/-- How many indices go before `n`. -/
def rank (n : Fin N) : ℕ := (univ.filter (r · n)).card

variable {r}

/-- A rank is below the number of entries. -/
theorem rank_lt (h : Strict r) (n : Fin N) : rank r n < N := by
  classical
  have : (univ.filter (r · n)) ⊂ univ := by
    rw [Finset.ssubset_univ_iff]; intro e
    exact h.irrefl n (Finset.mem_filter.mp (e.symm ▸ mem_univ n : n ∈ univ.filter (r · n))).2
  simpa [rank] using Finset.card_lt_card this

/-- What stands before has the lower rank. -/
theorem rank_lt_rank (h : Strict r) {m n : Fin N} (hr : r m n) : rank r m < rank r n := by
  classical
  refine Finset.card_lt_card ⟨fun a ha => ?_, fun hs => ?_⟩
  · rw [mem_filter] at ha ⊢; exact ⟨ha.1, h.trans _ _ _ ha.2 hr⟩
  · exact h.irrefl m (mem_filter.mp (hs (mem_filter.mpr ⟨mem_univ m, hr⟩))).2

/-- No two entries share a rank. -/
theorem rank_inj (h : Strict r) {m n : Fin N} (e : rank r m = rank r n) : m = n := by
  by_contra hne
  rcases h.total m n hne with hr | hr
  · exact absurd e (rank_lt_rank h hr).ne
  · exact absurd e (rank_lt_rank h hr).ne'

/-- The order of ranks is the order of the entries. -/
theorem rank_lt_iff (h : Strict r) {m n : Fin N} : rank r m < rank r n ↔ r m n := by
  refine ⟨fun hl => ?_, rank_lt_rank h⟩
  rcases eq_or_ne m n with rfl | hne
  · exact absurd hl (lt_irrefl _)
  · rcases h.total m n hne with hr | hr
    · exact hr
    · exact absurd (rank_lt_rank h hr) (by omega)

/-- The index at each rank. -/
def atRank (h : Strict r) : Fin N ≃ Fin N :=
  (Equiv.ofBijective (fun n => ⟨rank r n, rank_lt h n⟩ : Fin N → Fin N)
    (Finite.injective_iff_bijective.mp fun a b e => rank_inj h (Fin.mk.inj_iff.mp e))).symm

/-- The entry of rank `k` has rank `k`. -/
theorem rank_atRank (h : Strict r) (k : Fin N) : rank r (atRank h k) = k.val := by
  have := (atRank h).symm_apply_apply k
  exact congrArg Fin.val this

/-- Only the entry of rank `k` has rank `k`. -/
theorem rank_eq_iff (h : Strict r) (k : Fin N) (n : Fin N) : k.val = rank r n ↔ n = atRank h k :=
  ⟨fun e => rank_inj h (by rw [rank_atRank, e]), fun e => by rw [e, rank_atRank]⟩

/-- Entries taken by rank stand in order. -/
theorem atRank_lt (h : Strict r) {j k : Fin N} : j < k ↔ r (atRank h j) (atRank h k) := by
  rw [← rank_lt_iff h, rank_atRank, rank_atRank, Fin.lt_def]

end Rank

/-! ## The two orders -/

section Orders
variable {N : ℕ} {α : Type} [LinearOrder α]

/-- The lower value first, equals by index. -/
def Lower (a : Fin N → α) (m n : Fin N) : Prop := a m < a n ∨ (a m = a n ∧ m < n)

/-- The higher value first, equals by index. -/
def Higher (a : Fin N → α) (m n : Fin N) : Prop := a n < a m ∨ (a m = a n ∧ m < n)

/-- The order by value, then index, is strict and total. -/
theorem lower_strict (a : Fin N → α) : Strict (Lower a) where
  irrefl i h := by rcases h with h | h <;> simp_all
  trans i j k h1 h2 := by
    rcases h1 with h1 | ⟨e1, h1⟩ <;> rcases h2 with h2 | ⟨e2, h2⟩
    · exact .inl (h1.trans h2)
    · exact .inl (e2 ▸ h1)
    · exact .inl (e1 ▸ h2)
    · exact .inr ⟨e1.trans e2, h1.trans h2⟩
  total i j hne := by
    rcases lt_trichotomy (a i) (a j) with h | h | h
    · exact .inl (.inl h)
    · rcases lt_or_gt_of_ne hne with h' | h'
      · exact .inl (.inr ⟨h, h'⟩)
      · exact .inr (.inr ⟨h.symm, h'⟩)
    · exact .inr (.inl h)

/-- The order by value from above, then index, is strict and total. -/
theorem higher_strict (a : Fin N → α) : Strict (Higher a) := lower_strict (α := αᵒᵈ) a

/-- Along the ranks the values do not fall. -/
theorem lower_mono (a : Fin N → α) {i j : Fin N} (h : i ≤ j) :
    a (atRank (lower_strict a) i) ≤ a (atRank (lower_strict a) j) := by
  rcases h.eq_or_lt with rfl | h
  · exact le_rfl
  · rcases (atRank_lt (lower_strict a)).mp h with h | h
    · exact h.le
    · exact h.1.le

end Orders

/-! ## Where the last ranks are the first of the opposite order

`s` has no tie across the cut after the first `c` ranks: then an index is beyond the cut exactly when the order that
sorts the other way puts it among its first `N - c`. -/

section Cut
variable {N : ℕ} (s : Fin N → EReal) (c : ℕ)

/-- For every index, at least `c` are strictly higher or at most `c` are as high. -/
def Separated : Prop := ∀ n, c ≤ (univ.filter (s n < s ·)).card ∨ (univ.filter (s n ≤ s ·)).card ≤ c

variable {s c}

/-- When no tie crosses the cut, the entries beyond it are the first of the opposite order. -/
theorem beyond_iff (h : Separated s c) (hc : c ≤ N) (n : Fin N) : c ≤ rank (Higher s) n ↔ rank (Lower s) n < N - c := by
  classical
  have h1 : (univ.filter (s n < s ·)).card ≤ rank (Higher s) n :=
    Finset.card_le_card fun m hm => mem_filter.mpr ⟨mem_univ m, .inl (mem_filter.mp hm).2⟩
  have h2 : rank (Higher s) n < (univ.filter (s n ≤ s ·)).card := by
    refine Finset.card_lt_card ⟨fun m hm => ?_, fun hs => ?_⟩
    · rcases (mem_filter.mp hm).2 with h | h
      · exact mem_filter.mpr ⟨mem_univ m, h.le⟩
      · exact mem_filter.mpr ⟨mem_univ m, h.1.ge⟩
    · exact (higher_strict s).irrefl n (mem_filter.mp (hs (mem_filter.mpr ⟨mem_univ n, le_rfl⟩))).2
  have h3 : (univ.filter (s · < s n)).card ≤ rank (Lower s) n :=
    Finset.card_le_card fun m hm => mem_filter.mpr ⟨mem_univ m, .inl (mem_filter.mp hm).2⟩
  have h4 : rank (Lower s) n < (univ.filter (s · ≤ s n)).card := by
    refine Finset.card_lt_card ⟨fun m hm => ?_, fun hs => ?_⟩
    · rcases (mem_filter.mp hm).2 with h | h
      · exact mem_filter.mpr ⟨mem_univ m, h.le⟩
      · exact mem_filter.mpr ⟨mem_univ m, h.1.le⟩
    · exact (lower_strict s).irrefl n (mem_filter.mp (hs (mem_filter.mpr ⟨mem_univ n, le_rfl⟩))).2
  have h5 : (univ.filter (s · < s n)).card + (univ.filter (s n ≤ s ·)).card = N := by
    have := Finset.card_filter_add_card_filter_not (s := (univ : Finset (Fin N))) (s · < s n)
    simpa using this
  have h6 : (univ.filter (s · ≤ s n)).card + (univ.filter (s n < s ·)).card = N := by
    have := Finset.card_filter_add_card_filter_not (s := (univ : Finset (Fin N))) (s · ≤ s n)
    simpa using this
  rcases h n with h | h <;> omega

end Cut

/-! ## Pools -/

open Classical in
/-- The greatest entry whose key is `k`, or zero where no key is. -/
def pool {ι : Type} [Fintype ι] (key : ι → ℕ) (f : ι → EReal) (k : ℕ) : EReal :=
  if ∃ i, key i = k then (univ.filter (key · = k)).sup f else 0

/-- A pool over a list of indices depends only on which indices are listed. -/
theorem pool_congr {ι κ ν : Type} [Fintype ι] [Fintype κ] (w : ι → ν) (w' : κ → ν)
    (h : ∀ n, (∃ i, w i = n) ↔ ∃ j, w' j = n) (key : ν → ℕ) (f : ν → EReal) (k : ℕ) :
    pool (fun i => key (w i)) (fun i => f (w i)) k = pool (fun j => key (w' j)) (fun j => f (w' j)) k := by
  classical
  have sub : ∀ {α β : Type} [Fintype α] [Fintype β] (u : α → ν) (v : β → ν), (∀ n, (∃ i, u i = n) → ∃ j, v j = n) →
      (univ.filter (fun i => key (u i) = k)).sup (fun i => f (u i)) ≤
        (univ.filter (fun j => key (v j) = k)).sup (fun j => f (v j)) := by
    intro α β _ _ u v huv
    refine Finset.sup_le fun i hi => ?_
    obtain ⟨j, hj⟩ := huv _ ⟨i, rfl⟩
    rw [← hj]
    exact Finset.le_sup (f := fun j => f (v j)) (mem_filter.mpr ⟨mem_univ j, hj ▸ (mem_filter.mp hi).2⟩)
  have hex : (∃ i, key (w i) = k) ↔ ∃ j, key (w' j) = k := by
    constructor
    · rintro ⟨i, hi⟩; obtain ⟨j, hj⟩ := (h _).mp ⟨i, rfl⟩; exact ⟨j, hj ▸ hi⟩
    · rintro ⟨j, hj⟩; obtain ⟨i, hi⟩ := (h _).mpr ⟨j, rfl⟩; exact ⟨i, hi ▸ hj⟩
  unfold pool
  by_cases he : ∃ i, key (w i) = k
  · rw [if_pos he, if_pos (hex.mp he)]
    exact le_antisymm (sub w w' fun n => (h n).mp) (sub w' w fun n => (h n).mpr)
  · rw [if_neg he, if_neg (fun h' => he (hex.mpr h'))]

/-! ## The running maximum by doublings -/

section Run
variable {N : ℕ} (key : Fin N → ℕ)

/-- One doubling: an entry is joined with the one `t` above when their keys agree. -/
def step (t : ℕ) (f : Fin N → EReal) (i : Fin N) : EReal :=
  if h : t ≤ i.val then
    if key ⟨i.val - t, by omega⟩ = key i then max (f i) (f ⟨i.val - t, by omega⟩) else f i
  else f i

/-- The entries of the key of `i` among the `t` up to `i`. -/
def near (t : ℕ) (i : Fin N) : Finset (Fin N) := univ.filter fun j => j ≤ i ∧ i.val < j.val + t ∧ key j = key i

/-- `g` holds, at each entry, the greatest of `f` among the last `t` of its key. -/
def Covers (t : ℕ) (f g : Fin N → EReal) : Prop := ∀ i, g i = (near key t i).sup f

variable {key}

/-- Before any step each entry covers itself. -/
theorem covers_one (f : Fin N → EReal) : Covers key 1 f f := by
  intro i
  have : near key 1 i = {i} := by
    ext j; simp only [near, mem_filter, mem_univ, true_and, mem_singleton]
    constructor
    · rintro ⟨h1, h2, -⟩; exact Fin.ext (by have := Fin.le_def.mp h1; omega)
    · rintro rfl; exact ⟨le_rfl, by omega, rfl⟩
  rw [this, Finset.sup_singleton]

/-- A doubling doubles the reach, when the keys do not fall. -/
theorem covers_step (mono : Monotone key) {t : ℕ} {f g : Fin N → EReal} (h : Covers key t f g) :
    Covers key (t + t) f (step key t g) := by
  intro i
  unfold step
  by_cases ht : t ≤ i.val
  · rw [dif_pos ht]
    have hle : (⟨i.val - t, by omega⟩ : Fin N) ≤ i := Fin.le_def.mpr (Nat.sub_le _ _)
    by_cases hk : key ⟨i.val - t, by omega⟩ = key i
    · rw [if_pos hk, h, h, show ∀ a b : EReal, max a b = a ⊔ b from fun _ _ => rfl, ← Finset.sup_union]
      congr 1; ext j
      simp only [near, mem_union, mem_filter, mem_univ, true_and, Fin.le_def, hk]
      constructor
      · rintro (⟨h1, h2, h3⟩ | ⟨h1, h2, h3⟩)
        · exact ⟨h1, by omega, h3⟩
        · exact ⟨by omega, by omega, h3⟩
      · rintro ⟨h1, h2, h3⟩
        rcases lt_or_ge i.val (j.val + t) with h4 | h4
        · exact .inl ⟨h1, h4, h3⟩
        · exact .inr ⟨by omega, by omega, h3⟩
    · rw [if_neg hk, h]
      congr 1; ext j
      simp only [near, mem_filter, mem_univ, true_and, Fin.le_def]
      constructor
      · rintro ⟨h1, h2, h3⟩; exact ⟨h1, by omega, h3⟩
      · rintro ⟨h1, h2, h3⟩
        refine ⟨h1, ?_, h3⟩
        by_contra h4
        have h5 : key j ≤ key ⟨i.val - t, by omega⟩ := mono (Fin.le_def.mpr (by show j.val ≤ i.val - t; omega))
        exact hk (le_antisymm (mono hle) (h3 ▸ h5))
  · rw [dif_neg ht, h]
    congr 1; ext j
    simp only [near, mem_filter, mem_univ, true_and, Fin.le_def]
    constructor
    · rintro ⟨h1, h2, h3⟩; exact ⟨h1, by omega, h3⟩
    · rintro ⟨h1, h2, h3⟩; exact ⟨h1, by omega, h3⟩

variable (key) in
/-- The last entry of its key. -/
def IsEnd (i : Fin N) : Prop := ∀ h : i.val + 1 < N, key i ≠ key ⟨i.val + 1, h⟩

/-- After the last of a run comes no other entry of its key. -/
theorem le_end (mono : Monotone key) {i j : Fin N} (hi : IsEnd key i) (h : key j = key i) : j ≤ i := by
  by_contra hlt
  have hlt := Fin.lt_def.mp (not_le.mp hlt)
  have hb : i.val + 1 < N := by omega
  have h1 : key i ≤ key ⟨i.val + 1, hb⟩ := mono (Fin.le_def.mpr (by show i.val ≤ i.val + 1; omega))
  have h2 : key ⟨i.val + 1, hb⟩ ≤ key j := mono (Fin.le_def.mpr (by show i.val + 1 ≤ j.val; omega))
  exact hi hb (le_antisymm h1 (h ▸ h2))

open Classical in
/-- The entries that end a run of key `k` are at most one, and pick the pool of that key. -/
theorem sum_ends (mono : Monotone key) {t : ℕ} (ht : N ≤ t) {f g : Fin N → EReal} (h : Covers key t f g) (k : ℕ) :
    ∑ i, (if k = key i ∧ IsEnd key i then (1 : EReal) else 0) * g i = pool key f k := by
  unfold pool
  by_cases he : ∃ i, key i = k
  · rw [if_pos he]
    obtain ⟨i0, h0⟩ := he
    have hne : (univ.filter (key · = k)).Nonempty := ⟨i0, mem_filter.mpr ⟨mem_univ _, h0⟩⟩
    have hm := Finset.max'_mem _ hne
    generalize hp : (univ.filter (key · = k)).max' hne = p at hm
    have hkp : key p = k := (mem_filter.mp hm).2
    have hmax : ∀ j, key j = k → j ≤ p := fun j hj =>
      hp ▸ Finset.le_max' _ _ (mem_filter.mpr ⟨mem_univ j, hj⟩)
    have hend : IsEnd key p := fun hb e => by
      have := Fin.le_def.mp (hmax _ (e.symm.trans hkp)); simp at this
    rw [sum_hot _ p (fun i => ⟨fun hi => le_antisymm (hmax i hi.1.symm) (le_end mono hi.2 (hkp.trans hi.1)),
      fun e => e ▸ ⟨hkp.symm, hend⟩⟩), h]
    congr 1; ext j
    simp only [near, mem_filter, mem_univ, true_and, hkp]
    exact ⟨fun hj => hj.2.2, fun hj => ⟨hmax j hj, by have := p.isLt; omega, hj⟩⟩
  · rw [if_neg he]
    refine Finset.sum_eq_zero fun i _ => ?_
    rw [if_neg (fun hi => he ⟨i, hi.1.symm⟩), zero_mul]

end Run

/-! ## The first greatest entry -/

section First
variable {K : ℕ} (f : Fin (K + 1) → EReal)

/-- A greatest entry exists. -/
theorem exists_best : ∃ k, f k = univ.sup f := by
  obtain ⟨k, -, hk⟩ := Finset.exists_mem_eq_sup (univ : Finset (Fin (K + 1))) ⟨0, mem_univ _⟩ f
  exact ⟨k, hk.symm⟩

open Classical in
/-- The first index at which the greatest entry stands. -/
def first : Fin (K + 1) := (univ.filter fun k => f k = univ.sup f).min' ((exists_best f).imp fun k hk => mem_filter.mpr ⟨mem_univ k, hk⟩)

/-- The first greatest entry is a greatest entry. -/
theorem first_best : f (first f) = univ.sup f := by
  have h : first f ∈ (univ.filter fun k => f k = univ.sup f) := Finset.min'_mem _ _
  exact (mem_filter.mp h).2

/-- No greatest entry comes earlier. -/
theorem first_le {k : Fin (K + 1)} (h : f k = univ.sup f) : first f ≤ k := by
  classical exact Finset.min'_le _ _ (mem_filter.mpr ⟨mem_univ k, h⟩)

/-- It goes before every other under `Higher`. -/
theorem rank_first : rank (Higher f) (first f) = 0 := by
  classical
  rw [rank, Finset.card_eq_zero, Finset.filter_eq_empty_iff]
  rintro m - (h | ⟨h, h'⟩)
  · exact absurd (Finset.le_sup (f := f) (mem_univ m)) (not_le.mpr (first_best f ▸ h))
  · exact absurd (first_le f (h.trans (first_best f))) (not_le.mpr h')

/-- The least of the indices at which the greatest entry stands, anything larger elsewhere. -/
theorem fold_min_first (big : EReal) (hb : ∀ k : Fin (K + 1), nr k.val ≤ big) [DecidablePred fun k => f k = univ.sup f] :
    univ.fold min ⊤ (fun k : Fin (K + 1) => if f k = univ.sup f then nr k.val else big) = nr (first f).val := by
  show univ.inf (fun k : Fin (K + 1) => if f k = univ.sup f then nr k.val else big) = _
  refine le_antisymm ?_ (Finset.le_inf fun k _ => ?_)
  · refine (Finset.inf_le (mem_univ (first f))).trans ?_
    rw [if_pos (first_best f)]
  · split
    · rename_i hk; exact nr_le.mpr (Fin.le_def.mp (first_le f hk))
    · exact hb _

end First

end Cert.Merge

end
-- ==== Proof.Spec.lean ====
/-
  What both programs compute, on extended reals: the scores of the patches of one image, and the merge of the patches
  beyond the cut into the patches before it.
-/
module

public import proofs.«01_k».proof.Proof.Order

@[expose] public section

noncomputable section

namespace Cert.Merge

open Finset Idealize.ShloMosaic

/-- The features of one patch. -/
abbrev Patch := Fin 768 → EReal

/-! ## The scores -/

/-- The softmax of a row. -/
def soft {N : ℕ} (l : Fin N → EReal) (n : Fin N) : EReal :=
  Ideal.div (Ideal.exp (l n - univ.sup l)) (∑ m, Ideal.exp (l m - univ.sup l))

/-- The scaled product of a query with a patch, each through its matrix. -/
def scaled (q : Patch) (v : Patch) (wq wk : Fin 768 → Fin 64 → EReal) : EReal :=
  Ideal.div (∑ d, (∑ e, q e * wq e d) * (∑ e, v e * wk e d)) (Ideal.ofBits .f32 0x41000000#32)

/-- One head's row of scores. -/
def headScore (q : Patch) (V : Fin 196 → Patch) (wq wk : Fin 768 → Fin 64 → EReal) : Fin 196 → EReal :=
  soft fun n => scaled q (V n) wq wk

/-- The batch whose image and query give row `h` of the scores of parity `p`. -/
def batchOf (p : Fin 2) (h : Fin 12) : Fin 8 := ⟨(4 * p.val + h.val) % 8, Nat.mod_lt _ (by decide)⟩

/-- A sum over the heads, term by term. -/
theorem sum12 (f : Fin 12 → EReal) : ∑ h, f h = f 0 + f 1 + f 2 + f 3 + f 4 + f 5 + f 6 + f 7 + f 8 + f 9 + f 10 + f 11 := by
  rw [Fin.sum_univ_castSucc, Fin.sum_univ_castSucc, Fin.sum_univ_castSucc, Fin.sum_univ_castSucc, Fin.sum_univ_eight]; rfl

/-- The scores of the batches of parity `p`: the mean of twelve rows, head `h` at its own batch. -/
def meanScore (q : Fin 8 → Patch) (V : Fin 8 → Fin 196 → Patch) (wq wk : Fin 12 → Fin 768 → Fin 64 → EReal) (p : Fin 2)
    (n : Fin 196) : EReal :=
  Ideal.div (∑ h, headScore (q (batchOf p h)) (V (batchOf p h)) (wq h) (wk h) n) (Ideal.ofBits .f32 0x41400000#32)

/-! ## The merge -/

/-- A patch's length, held away from zero. -/
def len (v : Patch) : EReal := max (Ideal.sqrt (∑ h, v h * v h)) (Ideal.ofBits .f32 0x2B8CBCCC#32)

/-- The likeness of two patches. -/
def alike (w s : Patch) : EReal := ∑ h, Ideal.div (w h) (len w) * Ideal.div (s h) (len s)

/-- The likenesses of a weak patch to the strong ones. -/
def likes (st : Fin 137 → Patch) (w : Patch) : Fin (136 + 1) → EReal := fun k => alike w (st k)

/-- The strong patch a weak one goes to. -/
def goal (st : Fin 137 → Patch) (w : Patch) : ℕ := (first (likes st w)).val

/-- The weight of a likeness. -/
def weight (x : EReal) : EReal := Ideal.div (Ideal.exp x) (Ideal.exp x + Ideal.ofBits .f32 0x402DF854#32)

/-- The weight a weak patch brings. -/
def gain (st : Fin 137 → Patch) (w : Patch) : EReal := weight (univ.sup (likes st w))

/-- The strong patch `k` mixed with the pool of the weak ones that go to it. -/
def mixed {ι : Type} [Fintype ι] (st : Fin 137 → Patch) (wk : ι → Patch) (k : Fin 137) (h : Fin 768) : EReal :=
  (1 - pool (fun i => goal st (wk i)) (fun i => gain st (wk i)) k.val) * st k h
    + pool (fun i => goal st (wk i)) (fun i => gain st (wk i)) k.val * pool (fun i => goal st (wk i)) (fun i => wk i h) k.val

/-- The patch of rank `k`, highest score first. -/
def strongPos (s : Fin 196 → EReal) (k : Fin 137) : Fin 196 := atRank (higher_strict s) ⟨k.val, by omega⟩

/-- The patch of rank `i + 137`. -/
def weakPos (s : Fin 196 → EReal) (i : Fin 59) : Fin 196 := atRank (higher_strict s) ⟨i.val + 137, by omega⟩

/-- The merge of one batch. -/
def merged (s : Fin 196 → EReal) (V : Fin 196 → Patch) : Fin 137 → Fin 768 → EReal :=
  mixed (fun k => V (strongPos s k)) (fun i => V (weakPos s i))

/-- The parity of a batch. -/
def parity (b : Fin 8) : Fin 2 := ⟨b.val % 2, Nat.mod_lt _ (by decide)⟩

/-- What both programs compute. -/
def result (q : Fin 8 → Patch) (V : Fin 8 → Fin 196 → Patch) (wq wk : Fin 12 → Fin 768 → Fin 64 → EReal) (b : Fin 8) :
    Fin 137 → Fin 768 → EReal :=
  merged (meanScore q V wq wk (parity b)) (V b)

/-- The patches beyond the cut are, when no tie crosses it, the first of the opposite order. -/
theorem mixed_lower (s : Fin 196 → EReal) (V : Fin 196 → Patch) (sep : Separated s 137) :
    mixed (fun k => V (strongPos s k)) (fun i : Fin 59 => V (atRank (lower_strict s) ⟨i.val, by omega⟩)) = merged s V := by
  have hw : ∀ n, (∃ i : Fin 59, atRank (lower_strict s) ⟨i.val, by omega⟩ = n) ↔ ∃ i : Fin 59, weakPos s i = n := by
    intro n
    have hb := beyond_iff sep (by decide) n
    constructor
    · rintro ⟨i, rfl⟩
      rw [rank_atRank] at hb
      have h := hb.mpr (show i.val < 196 - 137 by omega)
      have hlt := rank_lt (higher_strict s) (atRank (lower_strict s) ⟨i.val, by omega⟩)
      refine ⟨⟨rank (Higher s) (atRank (lower_strict s) ⟨i.val, by omega⟩) - 137, by omega⟩, ?_⟩
      exact ((rank_eq_iff (higher_strict s) _ _).mp (by simp only; omega)).symm
    · rintro ⟨i, rfl⟩
      have h := hb.mp (by rw [weakPos, rank_atRank]; simp)
      exact ⟨⟨rank (Lower s) (weakPos s i), by omega⟩, ((rank_eq_iff (lower_strict s) _ _).mp rfl).symm⟩
  funext k h
  unfold merged mixed
  rw [pool_congr _ _ hw (fun n => goal (fun k => V (strongPos s k)) (V n)) (fun n => gain (fun k => V (strongPos s k)) (V n)),
    pool_congr _ _ hw (fun n => goal (fun k => V (strongPos s k)) (V n)) (fun n => V n h)]

end Cert.Merge

end
-- ==== Proof.Reads.lean ====
/-
  Elementary readings at exact arithmetic: a bit made a number, a coordinate made a number, a column spread over rows,
  reductions of a matrix by rows and by columns, and matrix products.
-/
module

public import proofs.«01_k».proof.Proof.Order
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost

@[expose] public section

noncomputable section

namespace Cert.Merge

open Finset Idealize.ShloMosaic Idealize.ShloMosaic.ValueIdx

/-! ## Constants -/

/-- The word of zero. -/
theorem bits_zero : Ideal.ofBits .f32 0x00000000#32 = 0 := Ideal.ofBits_zero_f32
/-- The word of one. -/
theorem bits_one : Ideal.ofBits .f32 0x3F800000#32 = 1 := Ideal.ofBits_one_f32
/-- The word of minus infinity. -/
theorem bits_bot : Ideal.ofBits .f32 0xFF800000#32 = ⊥ := by simp [Ideal.ofBits, Ideal.ieee]
/-- The word of infinity. -/
theorem bits_top : Ideal.ofBits .f32 0x7F800000#32 = ⊤ := by simp [Ideal.ofBits, Ideal.ieee]
/-- The word of 137. -/
theorem bits_137 : Ideal.ofBits .f32 0x43090000#32 = nr 137 := by
  simp [Ideal.ofBits, Ideal.ieee, nr]; rw [← EReal.coe_mul]; norm_num
/-- The word of minus one. -/
theorem bits_neg_one : Ideal.ofBits .f32 0xBF800000#32 = ((-1 : ℝ) : EReal) := by
  simp [Ideal.ofBits, Ideal.ieee]; rw [← EReal.coe_mul]; norm_num
/-- The word of the number that stands for no index. -/
theorem bits_big : Ideal.ofBits .f32 0x4E6E6B28#32 = nr 1000000000 := by
  simp [Ideal.ofBits, Ideal.ieee, nr]; rw [← EReal.coe_pow, ← EReal.coe_mul]; norm_num

/-- Minus one is no natural number. -/
theorem nr_ne_neg_one (n : ℕ) : ((-1 : ℝ) : EReal) ≠ nr n := by
  intro h; rw [nr, EReal.coe_eq_coe_iff] at h
  have : (0 : ℝ) ≤ n := Nat.cast_nonneg n
  linarith

/-! ## Bits -/

/-- The bit of a proposition. -/
def bit (p : Prop) [Decidable p] : BitVec 1 := BitVec.ofBool (decide p)

/-- The bit of a disjunction. -/
theorem ori_bit (p q : Prop) [Decidable p] [Decidable q] : IntOp.ori (bit p) (bit q) = bit (p ∨ q) := by
  by_cases hp : p <;> by_cases hq : q <;> simp [bit, hp, hq, IntOp.ori]
/-- The bit of a conjunction. -/
theorem andi_bit (p q : Prop) [Decidable p] [Decidable q] : IntOp.andi (bit p) (bit q) = bit (p ∧ q) := by
  by_cases hp : p <;> by_cases hq : q <;> simp [bit, hp, hq, IntOp.andi]
/-- A choice by a bit. -/
theorem select_bit {α : Type} (p : Prop) [Decidable p] (a b : α) : Scalar.select (bit p) a b = if p then a else b := by
  by_cases hp : p <;> simp [bit, hp, Scalar.select]

/-- Equivalent statements have one bit. -/
theorem bit_congr {p q : Prop} [Decidable p] [Decidable q] (h : p ↔ q) : bit p = bit q := by
  unfold bit; rw [decide_eq_decide.mpr h]

/-- A bit widened and made a number is one or zero. -/
theorem num_bit (p : Prop) [Decidable p] :
    (FloatOps.sitofp .f32 ((bit p).setWidth 32) : Ideal .f32) = if p then (1 : EReal) else 0 := by
  show ((((bit p).setWidth 32).toInt : ℝ) : EReal) = _
  by_cases hp : p
  · rw [if_pos hp, show bit p = 1#1 by simp [bit, hp], show ((1#1).setWidth 32).toInt = 1 from by decide]; simp
  · rw [if_neg hp, show bit p = 0#1 by simp [bit, hp], show ((0#1).setWidth 32).toInt = 0 from by decide]; simp

/-- A small index read back from its word. -/
theorem toInt_iota (n : ℕ) (h : n < 1000) : (BitVec.ofNat 32 n).toInt = n := by
  have e : (BitVec.ofNat 32 n).toNat = n := by rw [BitVec.toNat_ofNat, Nat.mod_eq_of_lt (by omega)]
  rw [BitVec.toInt_eq_toNat_of_lt (by omega), e]

/-- A coordinate made a number. -/
theorem num_iota (n : ℕ) (h : n < 1000) : (FloatOps.sitofp .f32 (BitVec.ofNat 32 n) : Ideal .f32) = nr n := by
  show (((BitVec.ofNat 32 n).toInt : ℝ) : EReal) = _
  rw [toInt_iota n h]; simp [nr]

/-- Small indices are equal when their words are. -/
theorem cmpi_eq_iota (a b : ℕ) (ha : a < 1000) (hb : b < 1000) :
    IntOp.cmpi .eq (BitVec.ofNat 32 a) (BitVec.ofNat 32 b) = bit (a = b) := by
  show BitVec.ofBool (BitVec.ofNat 32 a == BitVec.ofNat 32 b) = _
  refine congrArg BitVec.ofBool ?_
  rw [Bool.eq_iff_iff, beq_iff_eq, decide_eq_true_iff, ← BitVec.toNat_inj, BitVec.toNat_ofNat, BitVec.toNat_ofNat,
    Nat.mod_eq_of_lt (by omega), Nat.mod_eq_of_lt (by omega)]

/-- Small indices compare as their words do. -/
theorem cmpi_slt_iota (a b : ℕ) (ha : a < 1000) (hb : b < 1000) :
    IntOp.cmpi .slt (BitVec.ofNat 32 a) (BitVec.ofNat 32 b) = bit (a < b) := by
  show BitVec.ofBool (BitVec.slt (BitVec.ofNat 32 a) (BitVec.ofNat 32 b)) = _
  refine congrArg BitVec.ofBool ?_
  rw [BitVec.slt, toInt_iota a ha, toInt_iota b hb]
  simp

open Classical in
/-- The comparison for equality. -/
theorem cmpf_oeq (x y : EReal) : FloatOps.cmpf (F := Ideal) (φ := .f32) .oeq x y = bit (x = y) := by
  show BitVec.ofBool _ = _; unfold bit; congr
open Classical in
/-- The comparison for difference. -/
theorem cmpf_one (x y : EReal) : FloatOps.cmpf (F := Ideal) (φ := .f32) .one x y = bit (x ≠ y) := by
  show BitVec.ofBool _ = _; unfold bit; congr
open Classical in
/-- The comparison for greater. -/
theorem cmpf_ogt (x y : EReal) : FloatOps.cmpf (F := Ideal) (φ := .f32) .ogt x y = bit (y < x) := by
  show BitVec.ofBool _ = _; unfold bit; congr
open Classical in
/-- The comparison for less. -/
theorem cmpf_olt (x y : EReal) : FloatOps.cmpf (F := Ideal) (φ := .f32) .olt x y = bit (x < y) := by
  show BitVec.ofBool _ = _; unfold bit; congr

/-- Counting what goes before gives the rank. -/
theorem sum_rank {N : ℕ} (r : Fin N → Fin N → Prop) (n : Fin N) (p : Fin N → Prop) [DecidablePred p] (h : ∀ m, p m ↔ r m n) :
    ∑ m, (if p m then (1 : EReal) else 0) = nr (rank r n) := by
  classical
  rw [sum_ite_nr]
  refine congrArg nr (congrArg Finset.card ?_)
  ext m; simp [h m]

/-! ## Layout -/

section Layout
variable {α : Type}

/-- A column spread over the columns of a matrix. -/
theorem broadcastTo_col {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The index a row reduction reads. -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- The index a column reduction reads. -/
theorem lift_col {a b : ℕ} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

end Layout

/-! ## Reductions -/

/-- A sum along the rows of a matrix. -/
theorem sum_row {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ x 0x00000000#32 h hφ hacc (ix1 i) = ∑ k : Fin b, x (ix2 i k) := by
  rw [Ideal.multiReduction_add_single]; exact Finset.sum_congr rfl fun k _ => congrArg x (lift_row h i k)

/-- A sum along the columns of a matrix. -/
theorem sum_col {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ x 0x00000000#32 h hφ hacc (ix1 j) = ∑ k : Fin a, x (ix2 k j) := by
  rw [Ideal.multiReduction_add_single]; exact Finset.sum_congr rfl fun k _ => congrArg x (lift_col h j k)

/-- The greatest of each row of a matrix. -/
theorem max_row {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (i : Fin a) :
    multiReduction .maximumf [1] ⟨1, ![a]⟩ x 0xFF800000#32 h hφ hacc (ix1 i) = univ.sup fun k : Fin b => x (ix2 i k) := by
  rw [Ideal.multiReduction_maximumf_single]
  show univ.fold max (Ideal.ofBits .f32 0xFF800000#32) (x ∘ h.lift (ix1 i)) = _
  rw [bits_bot, show x ∘ h.lift (ix1 i) = fun k : Fin b => x (ix2 i k) from funext fun k => congrArg x (lift_row h i k)]
  rfl

/-- The least of each row of a matrix. -/
theorem min_row {a b : ℕ} (x : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (i : Fin a) :
    multiReduction .minimumf [1] ⟨1, ![a]⟩ x 0x7F800000#32 h hφ hacc (ix1 i)
      = univ.fold min ⊤ fun k : Fin b => x (ix2 i k) := by
  rw [multiReduction_minimumf_eq_fold]
  refine (h.fold_filter_drop_single _ _ x (ix1 i)).trans ?_
  show univ.fold min (Ideal.ofBits .f32 0x7F800000#32) (x ∘ h.lift (ix1 i)) = _
  rw [bits_top, show x ∘ h.lift (ix1 i) = fun k : Fin b => x (ix2 i k) from funext fun k => congrArg x (lift_row h i k)]
  rfl

/-! ## Products -/

/-- An entry of a product. -/
theorem mul_plain {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (y : FVec Ideal ⟨2, ![K, N]⟩ .f32) (r : Fin M) (c : Fin N) :
    matmul d prec x y (constant ⟨2, ![M, N]⟩ .f32 0x00000000#32) (ix2 r c) = ∑ k : Fin K, x (ix2 r k) * y (ix2 k c) := by
  subst hd
  refine (Ideal.matmul_plain_apply prec x y _ r c).trans ?_
  show Ideal.ofBits .f32 0x00000000#32 + _ = _
  rw [bits_zero, zero_add]

/-- An entry of a product with a transpose. -/
theorem mul_transposed {M K N : ℕ} (d : DotDims ⟨2, ![M, K]⟩ ⟨2, ![N, K]⟩ ⟨2, ![M, N]⟩) (hd : d = DotDims.transposedRhs M K N)
    (prec : Option ContractPrecision) (x : FVec Ideal ⟨2, ![M, K]⟩ .f32) (y : FVec Ideal ⟨2, ![N, K]⟩ .f32) (r : Fin M) (c : Fin N) :
    matmul d prec x y (constant ⟨2, ![M, N]⟩ .f32 0x00000000#32) (ix2 r c) = ∑ k : Fin K, x (ix2 r k) * y (ix2 c k) := by
  subst hd
  refine (Ideal.matmul_transposedRhs_apply prec x y _ r c).trans ?_
  show Ideal.ofBits .f32 0x00000000#32 + _ = _
  rw [bits_zero, zero_add]

end Cert.Merge

end
-- ==== Proof.KernelReads.lean ====
/-
  The kernel's stages read at an index, at exact arithmetic.
-/
module

public import proofs.«01_k».proof.Proof.Stages
public import proofs.«01_k».proof.Proof.Spec
public import proofs.«01_k».proof.Proof.Reads

@[expose] public section

noncomputable section

namespace Cert.KernelIdeal.Stages

open Cert.KernelIdeal Cert.KernelIdeal.Gen Idealize.ShloMosaic Idealize.ShloMosaic.TcCoe Idealize.ShloMosaic.ValueIdx Cert.Merge Finset

/-! ## The scores -/

/-- The three matrices that stand side by side. -/
abbrev parts (w0 w1 w2 : FVec Ideal S1x768x64 .f32) : List ((s : Shape) × (s.Idx → EReal)) :=
  [⟨S768x64, shapeCast S768x64 w0 shapeCasts_S1x768x64_S768x64⟩, ⟨S768x64, shapeCast S768x64 w1 shapeCasts_S1x768x64_S768x64⟩,
    ⟨S768x64, shapeCast S768x64 w2 shapeCasts_S1x768x64_S768x64⟩]

/-- The columns from `off` on are those of the matrix `w` that stands there. -/
theorem cat3_part (w0 w1 w2 w : FVec Ideal S1x768x64 .f32) (k off : Nat) (hk : k < 3) (ho : off + 64 ≤ 192)
    (hw : (parts w0 w1 w2)[k]'hk = ⟨S768x64, shapeCast S768x64 w shapeCasts_S1x768x64_S768x64⟩)
    (hoff : ((((parts w0 w1 w2).take k).map (·.1)).map fun s => if h : s.rank = S768x192.rank then s.size ((1 : Fin 2).cast h.symm) else 0).sum = off)
    (e : Fin 768) (d : Fin 64) : cat3 w0 w1 w2 (ix2 e ⟨off + d.val, by omega⟩) = w (ix3 0 e d) := by
  refine (concatenate_apply_piece (t := S768x192) 1 (parts w0 w1 w2) concatenates_S768x64_S768x64_S768x64_S768x192_d1 _ k hk S768x64 _
    hw rfl off hoff (ix2 e d) (fun b hb => ?_) rfl).trans (shapeCast_1ab_ab_apply w _ e d)
  match b with
  | ⟨0, _⟩ => rfl
  | ⟨1, _⟩ => exact absurd rfl hb

/-- The three matrices side by side, at column `d` of each. -/
theorem cat3_apply (w0 w1 w2 : FVec Ideal S1x768x64 .f32) (e : Fin 768) (d : Fin 64) :
    cat3 w0 w1 w2 (ix2 e ⟨0 + d.val, by omega⟩) = w0 (ix3 0 e d) ∧ cat3 w0 w1 w2 (ix2 e ⟨64 + d.val, by omega⟩) = w1 (ix3 0 e d)
      ∧ cat3 w0 w1 w2 (ix2 e ⟨128 + d.val, by omega⟩) = w2 (ix3 0 e d) :=
  ⟨cat3_part w0 w1 w2 w0 0 0 (by decide) (by decide) rfl rfl e d, cat3_part w0 w1 w2 w1 1 64 (by decide) (by decide) rfl rfl e d,
    cat3_part w0 w1 w2 w2 2 128 (by decide) (by decide) rfl rfl e d⟩

/-- An entry of the keys is a patch's product with a column of the matrices. -/
theorem keys_apply (img : FVec Ideal S1x196x768 .f32) (w0 w1 w2 : FVec Ideal S1x768x64 .f32) (n : Fin 196) (c : Fin 192) :
    keys img w0 w1 w2 (ix2 n c) = ∑ e, img (ix3 0 n e) * cat3 w0 w1 w2 (ix2 e c) := by
  refine (mul_plain _ rfl none _ _ n c).trans (Finset.sum_congr rfl fun e _ => ?_)
  rw [shapeCast_1ab_ab_apply]

/-- An entry of the queries is the text's product with a column of the matrices. -/
theorem queries_apply (q : FVec Ideal S1x768 .f32) (w0 w1 w2 : FVec Ideal S1x768x64 .f32) (c : Fin 192) :
    queries q w0 w1 w2 (ix2 0 c) = ∑ e, q (ix2 0 e) * cat3 w0 w1 w2 (ix2 e c) := by
  refine (mul_plain _ rfl none _ _ 0 c).trans (Finset.sum_congr rfl fun e _ => ?_)
  rw [shapeCast_self]

/-- A scaled product of the query with a key. -/
theorem logits_apply (q : FVec Ideal S1x64 .f32) (k : FVec Ideal S196x64 .f32) (n : Fin 196) :
    logits q k (ix2 0 n) = Ideal.div (∑ d, q (ix2 0 d) * k (ix2 n d)) (Ideal.ofBits .f32 0x41000000#32) :=
  congrArg (Ideal.div · _) (mul_transposed _ rfl none _ _ 0 n)

/-- An exponential, the greatest of its row subtracted. -/
theorem expRow_apply (l : FVec Ideal S1x196 .f32) (n : Fin 196) :
    expRow l (ix2 0 n) = Ideal.exp (l (ix2 0 n) - univ.sup fun m => l (ix2 0 m)) := by
  show Ideal.exp (l (ix2 0 n) - broadcastTo S1x196 _ _ (ix2 0 n)) = _
  rw [broadcastTo_col, shapeCast_a_a1_apply]
  exact congrArg (fun z => Ideal.exp (l (ix2 0 n) - z)) (max_row l _ _ _ 0)

/-- An entry divided by the sum of its row. -/
theorem overSum_apply (e : FVec Ideal S1x196 .f32) (n : Fin 196) :
    overSum e (ix2 0 n) = Ideal.div (e (ix2 0 n)) (∑ m, e (ix2 0 m)) := by
  show Ideal.div (e (ix2 0 n)) (broadcastTo S1x196 _ _ (ix2 0 n)) = _
  rw [broadcastTo_col, shapeCast_a_a1_apply]
  exact congrArg (Ideal.div (e (ix2 0 n))) (sum_row e _ _ _ 0)

/-- A head's row is the softmax of its scaled products. -/
theorem headRow_apply (off : Nat) (hk : S196x192.Slices ![0, off] S196x64) (hq : S1x192.Slices ![0, off] S1x64) (ho : off + 64 ≤ 192)
    (k : FVec Ideal S196x192 .f32) (q : FVec Ideal S1x192 .f32) (n : Fin 196) :
    headRow off hk hq k q (ix2 0 n) = soft (fun n => Ideal.div (∑ d : Fin 64, q (ix2 0 ⟨off + d.val, by omega⟩) * k (ix2 n ⟨off + d.val, by omega⟩))
      (Ideal.ofBits .f32 0x41000000#32)) n := by
  have hl : ∀ n : Fin 196, logits (extractStridedSlice S1x64 ![0, off] q hq) (extractStridedSlice S196x64 ![0, off] k hk) (ix2 0 n)
      = Ideal.div (∑ d : Fin 64, q (ix2 0 ⟨off + d.val, by omega⟩) * k (ix2 n ⟨off + d.val, by omega⟩)) (Ideal.ofBits .f32 0x41000000#32) := by
    intro n
    rw [logits_apply]
    refine congrArg (Ideal.div · _) (Finset.sum_congr rfl fun d _ => ?_)
    rw [extractStridedSlice_apply _ q hq (ix2 0 d) (ix2 0 ⟨off + d.val, by omega⟩) (fun a => by
        match a with
        | ⟨0, _⟩ => rfl
        | ⟨1, _⟩ => rfl),
      extractStridedSlice_apply _ k hk (ix2 n d) (ix2 n ⟨off + d.val, by omega⟩) (fun a => by
        match a with
        | ⟨0, _⟩ => exact (Nat.zero_add _).symm
        | ⟨1, _⟩ => rfl)]
  unfold headRow
  rw [overSum_apply]
  simp only [expRow_apply, hl]
  rfl

/-- A head's row from the query, the image and the head's two matrices. -/
theorem head_eq (g : Fin 3) (img : FVec Ideal S1x196x768 .f32) (q : FVec Ideal S1x768 .f32) (a0 a1 a2 b0 b1 b2 : FVec Ideal S1x768x64 .f32) (n : Fin 196) :
    (![head0 (keys img b0 b1 b2) (queries q a0 a1 a2), head1 (keys img b0 b1 b2) (queries q a0 a1 a2),
      head2 (keys img b0 b1 b2) (queries q a0 a1 a2)] g) (ix2 0 n)
      = headScore (fun e => q (ix2 0 e)) (fun n e => img (ix3 0 n e)) (fun e d => (![a0, a1, a2] g) (ix3 0 e d))
          (fun e d => (![b0, b1, b2] g) (ix3 0 e d)) n := by
  match g with
  | ⟨0, _⟩ =>
    refine (headRow_apply 0 _ _ (by decide) _ _ n).trans ?_
    simp only [queries_apply, keys_apply, (cat3_apply _ _ _ _ _).1]; rfl
  | ⟨1, _⟩ =>
    refine (headRow_apply 64 _ _ (by decide) _ _ n).trans ?_
    simp only [queries_apply, keys_apply, (cat3_apply _ _ _ _ _).2.1]; rfl
  | ⟨2, _⟩ =>
    refine (headRow_apply 128 _ _ (by decide) _ _ n).trans ?_
    simp only [queries_apply, keys_apply, (cat3_apply _ _ _ _ _).2.2]; rfl

/-! ## The ranks -/

/-- The scores down the columns. -/
theorem colOf_apply (s : FVec Ideal S1x196 .f32) (i j : Fin 196) : colOf s (ix2 i j) = s (ix2 0 i) := by
  unfold colOf
  rw [broadcastTo_col, shapeCast_self]
  refine (mul_transposed _ rfl _ _ _ i 0).trans ?_
  refine Eq.trans (Finset.sum_congr rfl fun k _ => ?_) (sum_hot (fun k => i.val = k.val) i (fun k => ⟨fun h => Fin.ext h.symm, fun h => h ▸ rfl⟩)
    (fun k => s (ix2 0 k)))
  refine congrArg (· * _) ?_
  rw [sitofp_apply, extui_apply]
  show FloatOps.sitofp .f32 ((IntOp.cmpi .eq (iota .tc S196x196 32 [0] _ (ix2 i k)) (iota .tc S196x196 32 [1] _ (ix2 i k))).setWidth 32) = _
  rw [iota_single_apply, iota_single_apply]
  show FloatOps.sitofp .f32 ((IntOp.cmpi .eq (BitVec.ofNat 32 i.val) (BitVec.ofNat 32 k.val)).setWidth 32) = _
  rw [cmpi_eq_iota _ _ (by omega) (by omega), num_bit]

/-- The scores along the rows. -/
theorem rowOf_apply (s : FVec Ideal S1x196 .f32) (i j : Fin 196) : rowOf s (ix2 i j) = s (ix2 0 j) := by
  unfold rowOf
  rw [broadcastTo_1b_ab_apply, shapeCast_self]

open Classical in
/-- The comparison matrix holds the order by score, then by index. -/
theorem goesBefore_apply (s : FVec Ideal S1x196 .f32) (i j : Fin 196) :
    goesBefore s (ix2 i j) = bit (Higher (fun n => s (ix2 0 n)) i j) := by
  show IntOp.ori (FloatOps.cmpf .ogt (colOf s (ix2 i j)) (rowOf s (ix2 i j))) (IntOp.andi (FloatOps.cmpf .oeq (colOf s (ix2 i j)) (rowOf s (ix2 i j)))
    (IntOp.cmpi .slt (iota .tc S196x196 32 [0] _ (ix2 i j)) (iota .tc S196x196 32 [1] _ (ix2 i j)))) = _
  rw [iota_single_apply, iota_single_apply, colOf_apply, rowOf_apply, cmpf_ogt, cmpf_oeq]
  show IntOp.ori _ (IntOp.andi _ (IntOp.cmpi .slt (BitVec.ofNat 32 i.val) (BitVec.ofNat 32 j.val))) = _
  rw [cmpi_slt_iota _ _ (by omega) (by omega), andi_bit, ori_bit]
  exact bit_congr Iff.rfl

/-- The counts are the ranks. -/
theorem ranks_apply (s : FVec Ideal S1x196 .f32) (j : Fin 196) : ranks s (ix2 0 j) = nr (rank (Higher fun n => s (ix2 0 n)) j) := by
  classical
  unfold ranks
  rw [shapeCast_a_1a_apply]
  refine (sum_col _ _ _ _ j).trans ?_
  refine Eq.trans (Finset.sum_congr rfl fun k _ => ?_) (sum_rank _ j (fun k => Higher (fun n => s (ix2 0 n)) k j) fun _ => Iff.rfl)
  rw [sitofp_apply, extui_apply, goesBefore_apply, num_bit]

open Classical in
/-- Row `k` has its one at the patch of rank `k`. -/
theorem hotStrong_apply (s : FVec Ideal S1x196 .f32) (k : Fin 137) (n : Fin 196) :
    hotStrong s (ix2 k n) = if k.val = rank (Higher fun n => s (ix2 0 n)) n then (1 : EReal) else 0 := by
  show FloatOps.sitofp .f32 ((FloatOps.cmpf .oeq (FloatOps.sitofp .f32 (iota .tc S137x196 32 [0] _ (ix2 k n)) : Ideal .f32)
    (broadcastTo S137x196 _ _ (ix2 k n))).setWidth 32) = _
  rw [iota_single_apply, broadcastTo_1b_ab_apply, shapeCast_self, ranks_apply]
  show FloatOps.sitofp .f32 ((FloatOps.cmpf .oeq (FloatOps.sitofp .f32 (BitVec.ofNat 32 k.val) : Ideal .f32) _).setWidth 32) = _
  rw [num_iota _ (by omega), cmpf_oeq, bit_congr nr_inj, num_bit]

open Classical in
/-- Row `i` has its one at the patch of rank `i + 137`. -/
theorem hotWeak_apply (s : FVec Ideal S1x196 .f32) (i : Fin 59) (n : Fin 196) :
    hotWeak s (ix2 i n) = if i.val + 137 = rank (Higher fun n => s (ix2 0 n)) n then (1 : EReal) else 0 := by
  show FloatOps.sitofp .f32 ((FloatOps.cmpf .oeq ((FloatOps.sitofp .f32 (iota .tc S59x196 32 [0] _ (ix2 i n)) : Ideal .f32) + Ideal.ofBits .f32 0x43090000#32)
    (broadcastTo S59x196 _ _ (ix2 i n))).setWidth 32) = _
  rw [iota_single_apply, broadcastTo_1b_ab_apply, shapeCast_self, ranks_apply, bits_137]
  show FloatOps.sitofp .f32 ((FloatOps.cmpf .oeq ((FloatOps.sitofp .f32 (BitVec.ofNat 32 i.val) : Ideal .f32) + nr 137) _).setWidth 32) = _
  rw [num_iota _ (by omega), nr_add, cmpf_oeq, bit_congr nr_inj, num_bit]

/-- The strong patches are those of ranks below the cut. -/
theorem strongOf_apply (s : FVec Ideal S1x196 .f32) (img : FVec Ideal S1x196x768 .f32) (k : Fin 137) (h : Fin 768) :
    strongOf (hotStrong s) img (ix2 k h) = img (ix3 0 (strongPos (fun n => s (ix2 0 n)) k) h) := by
  classical
  refine (mul_plain _ rfl _ _ _ k h).trans ?_
  simp only [hotStrong_apply, shapeCast_1ab_ab_apply]
  exact sum_hot _ _ (fun n => rank_eq_iff (higher_strict _) ⟨k.val, by omega⟩ n) fun n => img (ix3 0 n h)

/-- The weak patches are those of ranks from the cut on. -/
theorem weakOf_apply (s : FVec Ideal S1x196 .f32) (img : FVec Ideal S1x196x768 .f32) (i : Fin 59) (h : Fin 768) :
    weakOf (hotWeak s) img (ix2 i h) = img (ix3 0 (weakPos (fun n => s (ix2 0 n)) i) h) := by
  classical
  refine (mul_plain _ rfl _ _ _ i h).trans ?_
  simp only [hotWeak_apply, shapeCast_1ab_ab_apply]
  exact sum_hot _ _ (fun n => rank_eq_iff (higher_strict _) ⟨i.val + 137, by omega⟩ n) fun n => img (ix3 0 n h)

end Cert.KernelIdeal.Stages

end
-- ==== Proof.KernelMerge.lean ====
/-
  The kernel's merge of one batch read at an index, at exact arithmetic.
-/
module

public import proofs.«01_k».proof.Proof.KernelReads

@[expose] public section

noncomputable section

namespace Cert.KernelIdeal.Stages

open Cert.KernelIdeal Cert.KernelIdeal.Gen Idealize.ShloMosaic Idealize.ShloMosaic.TcCoe Idealize.ShloMosaic.ValueIdx Cert.Merge Finset

/-! ## Likenesses -/

/-- A strong patch divided by its length. -/
theorem unitStrong_apply (v : FVec Ideal S137x768 .f32) (k : Fin 137) (h : Fin 768) :
    unitStrong v (ix2 k h) = Ideal.div (v (ix2 k h)) (len fun h => v (ix2 k h)) := by
  show Ideal.div (v (ix2 k h)) (broadcastTo S137x768 _ _ (ix2 k h)) = _
  rw [broadcastTo_col]
  show Ideal.div (v (ix2 k h)) (max (Ideal.sqrt (shapeCast S137x1 _ _ (ix2 k 0))) (Ideal.ofBits .f32 0x2B8CBCCC#32)) = _
  rw [shapeCast_a_a1_apply]
  exact congrArg (fun z => Ideal.div (v (ix2 k h)) (max (Ideal.sqrt z) _)) (sum_row (mulf v v) _ _ _ k)

/-- A weak patch divided by its length. -/
theorem unitWeak_apply (v : FVec Ideal S59x768 .f32) (i : Fin 59) (h : Fin 768) :
    unitWeak v (ix2 i h) = Ideal.div (v (ix2 i h)) (len fun h => v (ix2 i h)) := by
  show Ideal.div (v (ix2 i h)) (broadcastTo S59x768 _ _ (ix2 i h)) = _
  rw [broadcastTo_col]
  show Ideal.div (v (ix2 i h)) (max (Ideal.sqrt (shapeCast S59x1 _ _ (ix2 i 0))) (Ideal.ofBits .f32 0x2B8CBCCC#32)) = _
  rw [shapeCast_a_a1_apply]
  exact congrArg (fun z => Ideal.div (v (ix2 i h)) (max (Ideal.sqrt z) _)) (sum_row (mulf v v) _ _ _ i)

/-- An entry of the similarity matrix is the likeness of its two patches. -/
theorem likeness_apply (w : FVec Ideal S59x768 .f32) (s : FVec Ideal S137x768 .f32) (i : Fin 59) (k : Fin 137) :
    likeness w s (ix2 i k) = likes (fun k h => s (ix2 k h)) (fun h => w (ix2 i h)) k := by
  refine (mul_transposed _ rfl _ _ _ i k).trans ?_
  simp only [unitWeak_apply, unitStrong_apply]
  rfl

/-- The greatest likeness of each weak patch. -/
theorem bestOf_apply (sim : FVec Ideal S59x137 .f32) (i : Fin 59) : bestOf sim (ix2 i 0) = univ.sup fun k : Fin 137 => sim (ix2 i k) := by
  unfold bestOf
  rw [shapeCast_a_a1_apply]
  exact max_row sim _ _ _ i

/-- The first strong patch of greatest likeness, as a number. -/
theorem assignOf_apply (sim : FVec Ideal S59x137 .f32) (i : Fin 59) :
    assignOf sim (ix2 i 0) = nr (first (K := 136) fun k => sim (ix2 i k)).val := by
  classical
  unfold assignOf
  rw [shapeCast_a_a1_apply]
  refine (min_row _ _ _ _ i).trans ?_
  refine Eq.trans ?_ (fold_min_first (K := 136) (fun k => sim (ix2 i k)) (nr 1000000000) fun k => nr_le.mpr (by omega))
  refine congrArg (fun f : Fin 137 → EReal => univ.fold min ⊤ f) (funext fun k => ?_)
  show Scalar.select (FloatOps.cmpf (F := Ideal) (φ := .f32) .oeq (sim (ix2 i k)) (broadcastTo S59x137 (bestOf sim) _ (ix2 i k)))
    (FloatOps.sitofp .f32 (iota .tc S59x137 32 [1] _ (ix2 i k)) : Ideal .f32) (Ideal.ofBits .f32 0x4E6E6B28#32) = _
  rw [broadcastTo_col, bestOf_apply, iota_single_apply, bits_big, cmpf_oeq, select_bit]
  show (if _ then (FloatOps.sitofp .f32 (BitVec.ofNat 32 k.val) : Ideal .f32) else _) = _
  rw [num_iota _ (by omega)]

/-! ## The sort by keys -/

/-- A column laid as a row. -/
theorem asRow_apply (a : FVec Ideal S59x1 .f32) (i : Fin 59) : asRow a (ix2 0 i) = a (ix2 i 0) := by
  refine (mul_transposed _ rfl _ _ _ 0 i).trans ?_
  rw [Fin.sum_univ_one]
  show Ideal.ofBits .f32 0x3F800000#32 * _ = _
  rw [bits_one, one_mul]

section Keys
variable (a : FVec Ideal S59x1 .f32) (K : Fin 59 → ℕ) (ha : ∀ i, a (ix2 i 0) = nr (K i))
include ha

open Classical in
/-- The comparison matrix holds the order by key, then by index. -/
theorem sortsBefore_apply (i j : Fin 59) : sortsBefore a (ix2 i j) = bit (Lower K i j) := by
  have hc : keyCols a (ix2 i j) = nr (K i) := by unfold keyCols; rw [broadcastTo_col, shapeCast_self, ha]
  have hr : keyRows a (ix2 i j) = nr (K j) := by unfold keyRows; rw [broadcastTo_1b_ab_apply, shapeCast_self, asRow_apply, ha]
  show IntOp.ori (FloatOps.cmpf .olt (keyCols a (ix2 i j)) (keyRows a (ix2 i j))) (IntOp.andi (FloatOps.cmpf .oeq (keyCols a (ix2 i j)) (keyRows a (ix2 i j)))
    (IntOp.cmpi .slt (iota .tc S59x59 32 [0] _ (ix2 i j)) (iota .tc S59x59 32 [1] _ (ix2 i j)))) = _
  rw [iota_single_apply, iota_single_apply, hc, hr, cmpf_olt, cmpf_oeq]
  show IntOp.ori _ (IntOp.andi _ (IntOp.cmpi .slt (BitVec.ofNat 32 i.val) (BitVec.ofNat 32 j.val))) = _
  rw [cmpi_slt_iota _ _ (by omega) (by omega), andi_bit, ori_bit]
  exact bit_congr (by rw [nr_lt, nr_inj]; exact Iff.rfl)

open Classical in
/-- The sorting matrix has a one where the row is the rank of the column. -/
theorem sorter_apply (p i : Fin 59) : sorter a (ix2 p i) = if p.val = rank (Lower K) i then (1 : EReal) else 0 := by
  have hr : shapeCast S1x59 (multiReduction .add [0] S59 (sitofp .f32 (extui 32 (sortsBefore a) natLt_1_32) : FVec Ideal S59x59 .f32) 0x00000000#32
      reduces_S59x59_S59 (.inl rfl) rfl) shapeCasts_S59_S1x59 (ix2 (0 : Fin 1) i) = nr (rank (Lower K) i) := by
    rw [shapeCast_a_1a_apply]
    refine (sum_col _ _ _ _ i).trans ?_
    refine Eq.trans (Finset.sum_congr rfl fun k _ => ?_) (sum_rank _ i (fun k => Lower K k i) fun _ => Iff.rfl)
    rw [sitofp_apply, extui_apply, sortsBefore_apply a K ha, num_bit]
  show FloatOps.sitofp .f32 ((FloatOps.cmpf .oeq (FloatOps.sitofp .f32 (iota .tc S59x59 32 [0] _ (ix2 p i)) : Ideal .f32)
    (broadcastTo S59x59 _ _ (ix2 p i))).setWidth 32) = _
  rw [iota_single_apply, broadcastTo_1b_ab_apply, shapeCast_self]
  show FloatOps.sitofp .f32 ((FloatOps.cmpf .oeq (FloatOps.sitofp .f32 (BitVec.ofNat 32 p.val) : Ideal .f32) _).setWidth 32) = _
  rw [num_iota _ (by omega)]
  refine Eq.trans (congrArg (fun z : EReal => (FloatOps.sitofp .f32 ((FloatOps.cmpf (F := Ideal) (φ := .f32) .oeq (nr p.val) z).setWidth 32) : Ideal .f32)) hr) ?_
  show (FloatOps.sitofp .f32 ((FloatOps.cmpf (F := Ideal) (φ := .f32) .oeq (nr p.val) (nr (rank (Lower K) i))).setWidth 32) : Ideal .f32) = _
  rw [cmpf_oeq, bit_congr nr_inj, num_bit]

/-- The sorting matrix puts the row of rank `p` at place `p`. -/
theorem sortRows_apply (v : FVec Ideal S59x768 .f32) (p : Fin 59) (h : Fin 768) :
    sortRows (sorter a) v (ix2 p h) = v (ix2 (atRank (lower_strict K) p) h) := by
  classical
  refine (mul_plain _ rfl _ _ _ p h).trans ?_
  simp only [sorter_apply a K ha]
  exact sum_hot _ _ (fun n => rank_eq_iff (lower_strict K) p n) fun n => v (ix2 n h)

/-- The same of a column. -/
theorem sortCol_apply (v : FVec Ideal S59x1 .f32) (p : Fin 59) :
    sortCol (sorter a) v (ix2 p 0) = v (ix2 (atRank (lower_strict K) p) 0) := by
  classical
  refine (mul_plain _ rfl _ _ _ p 0).trans ?_
  simp only [sorter_apply a K ha]
  exact sum_hot _ _ (fun n => rank_eq_iff (lower_strict K) p n) fun n => v (ix2 n 0)

end Keys

/-! ## The doublings -/

section Run
variable {t n : Nat} (h : Cut t n) (htn : t + n = 59)
include htn

/-- Rows moved down by `t`, from row `t` on. -/
theorem downV_below (v : FVec Ideal S59x768 .f32) (i : Fin 59) (c : Fin 768) (ht : t ≤ i.val) :
    downV h v (ix2 i c) = v (ix2 ⟨i.val - t, by omega⟩ c) := by
  unfold downV
  refine (concatenate_pair_apply_right (t := S59x768) 0 _ _ h.catV (ix2 i c) rfl rfl (ix2 (⟨i.val - t, by omega⟩ : Fin n) c) (fun b hb => ?_) ?_).trans ?_
  · match b with
    | ⟨0, _⟩ => exact absurd rfl hb
    | ⟨1, _⟩ => rfl
  · show i.val - t + t = i.val; omega
  · refine extractStridedSlice_apply _ v h.sliceV _ _ fun b => ?_
    match b with
    | ⟨0, _⟩ => exact (Nat.zero_add _).symm
    | ⟨1, _⟩ => exact (Nat.zero_add _).symm

/-- A column moved down by `t`, from row `t` on. -/
theorem downC_below (a : FVec Ideal S59x1 .f32) (i : Fin 59) (ht : t ≤ i.val) :
    downC h a (ix2 i 0) = a (ix2 ⟨i.val - t, by omega⟩ 0) := by
  unfold downC
  refine (concatenate_pair_apply_right (t := S59x1) 0 _ _ h.catC (ix2 i 0) rfl rfl (ix2 (⟨i.val - t, by omega⟩ : Fin n) (0 : Fin 1)) (fun b hb => ?_) ?_).trans ?_
  · match b with
    | ⟨0, _⟩ => exact absurd rfl hb
    | ⟨1, _⟩ => rfl
  · show i.val - t + t = i.val; omega
  · refine extractStridedSlice_apply _ a h.sliceC _ _ fun b => ?_
    match b with
    | ⟨0, _⟩ => exact (Nat.zero_add _).symm
    | ⟨1, _⟩ => rfl

omit htn in
/-- A column moved down by `t` has minus one in its first `t` rows. -/
theorem downC_above (a : FVec Ideal S59x1 .f32) (i : Fin 59) (ht : i.val < t) : downC h a (ix2 i 0) = ((-1 : ℝ) : EReal) := by
  unfold downC
  refine (concatenate_pair_apply_left (t := S59x1) 0 _ _ h.catC (ix2 i 0) rfl (ix2 (⟨i.val, ht⟩ : Fin t) (0 : Fin 1)) (fun b => ?_)).trans bits_neg_one
  match b with
  | ⟨0, _⟩ => rfl
  | ⟨1, _⟩ => rfl

variable (k : FVec Ideal S59x1 .f32) (key : Fin 59 → ℕ) (hk : ∀ i, k (ix2 i 0) = nr (key i))
include hk

open Classical in
/-- Whether the row `t` places above has the same key. -/
theorem same_apply (i : Fin 59) : same h k (ix2 i 0) = bit (∃ ht : t ≤ i.val, key ⟨i.val - t, by omega⟩ = key i) := by
  show FloatOps.cmpf (F := Ideal) (φ := .f32) .oeq (downC h k (ix2 i 0)) (k (ix2 i 0)) = _
  rw [hk, cmpf_oeq]
  refine bit_congr ?_
  by_cases ht : t ≤ i.val
  · rw [downC_below h htn k i ht, hk, nr_inj]; exact ⟨fun e => ⟨ht, e⟩, fun e => e.2⟩
  · rw [downC_above h k i (not_le.mp ht)]
    exact ⟨fun e => absurd e (nr_ne_neg_one _), fun e => absurd e.1 ht⟩

/-- One step of the doubling, on rows. -/
theorem stepV_apply (v : FVec Ideal S59x768 .f32) (i : Fin 59) (c : Fin 768) :
    stepV h k v (ix2 i c) = step key t (fun i => v (ix2 i c)) i := by
  classical
  show Scalar.select (broadcastTo S59x768 _ _ (ix2 i c)) (max (v (ix2 i c)) (downV h v (ix2 i c))) (v (ix2 i c)) = _
  rw [broadcastTo_col, shapeCast_self, same_apply h htn k key hk, select_bit]
  unfold step
  by_cases ht : t ≤ i.val
  · rw [dif_pos ht, downV_below h htn v i c ht]
    exact if_congr ⟨fun e => e.2, fun e => ⟨ht, e⟩⟩ rfl rfl
  · rw [dif_neg ht, if_neg fun e => ht e.1]

/-- One step of the doubling, on a column. -/
theorem stepC_apply (v : FVec Ideal S59x1 .f32) (i : Fin 59) : stepC h k v (ix2 i 0) = step key t (fun i => v (ix2 i 0)) i := by
  classical
  show Scalar.select (same h k (ix2 i 0)) (max (v (ix2 i 0)) (downC h v (ix2 i 0))) (v (ix2 i 0)) = _
  rw [same_apply h htn k key hk, select_bit]
  unfold step
  by_cases ht : t ≤ i.val
  · rw [dif_pos ht, downC_below h htn v i ht]
    exact if_congr ⟨fun e => e.2, fun e => ⟨ht, e⟩⟩ rfl rfl
  · rw [dif_neg ht, if_neg fun e => ht e.1]

end Run

section Ends
variable (k : FVec Ideal S59x1 .f32) (key : Fin 59 → ℕ) (hk : ∀ i, k (ix2 i 0) = nr (key i))
include hk

/-- After all steps each row holds the greatest of its run up to it. -/
theorem runV_covers (mono : Monotone key) (v : FVec Ideal S59x768 .f32) (c : Fin 768) :
    Covers key 64 (fun i => v (ix2 i c)) (fun i => runV k v (ix2 i c)) := by
  have one : ∀ {t n : ℕ} (h : Cut t n) (_ : t + n = 59) {f : Fin 59 → EReal} {u : FVec Ideal S59x768 .f32},
      Covers key t f (fun i => u (ix2 i c)) → Covers key (t + t) f (fun i => stepV h k u (ix2 i c)) := by
    intro t n h htn f u hc
    rw [show (fun i => stepV h k u (ix2 i c)) = step key t (fun i => u (ix2 i c)) from funext fun i => stepV_apply h htn k key hk u i c]
    exact covers_step mono hc
  exact one cut32 rfl (one cut16 rfl (one cut8 rfl (one cut4 rfl (one cut2 rfl (one cut1 rfl (covers_one _))))))

/-- The same of a column. -/
theorem runC_covers (mono : Monotone key) (v : FVec Ideal S59x1 .f32) :
    Covers key 64 (fun i => v (ix2 i 0)) (fun i => runC k v (ix2 i 0)) := by
  have one : ∀ {t n : ℕ} (h : Cut t n) (_ : t + n = 59) {f : Fin 59 → EReal} {u : FVec Ideal S59x1 .f32},
      Covers key t f (fun i => u (ix2 i 0)) → Covers key (t + t) f (fun i => stepC h k u (ix2 i 0)) := by
    intro t n h htn f u hc
    rw [show (fun i => stepC h k u (ix2 i 0)) = step key t (fun i => u (ix2 i 0)) from funext fun i => stepC_apply h htn k key hk u i]
    exact covers_step mono hc
  exact one cut32 rfl (one cut16 rfl (one cut8 rfl (one cut4 rfl (one cut2 rfl (one cut1 rfl (covers_one _))))))

/-- Each sorted key's successor, and `-1` after the last. -/
def nextOf (k : FVec Ideal S59x1 .f32) : FVec Ideal S59x1 .f32 :=
  concatenate S59x1 0 [⟨S58x1, extractStridedSlice S58x1 ![1, 0] k slices_S59x1_o1_0_S58x1⟩,
    ⟨S1x1, broadcast S1x1 (Scalar.ofBits .f32 0xBF800000#32 : Ideal .f32)⟩] concatenates_S58x1_S1x1_S59x1_d0

omit hk in
/-- The next row's key. -/
theorem nextOf_inner (i : Fin 59) (hi : i.val + 1 < 59) : nextOf k (ix2 i 0) = k (ix2 ⟨i.val + 1, hi⟩ 0) := by
  unfold nextOf
  refine (concatenate_pair_apply_left (t := S59x1) 0 _ _ concatenates_S58x1_S1x1_S59x1_d0 (ix2 i 0) rfl (ix2 (⟨i.val, by omega⟩ : Fin 58) (0 : Fin 1)) (fun b => ?_)).trans ?_
  · match b with
    | ⟨0, _⟩ => rfl
    | ⟨1, _⟩ => rfl
  · refine extractStridedSlice_apply _ k slices_S59x1_o1_0_S58x1 _ _ fun b => ?_
    match b with
    | ⟨0, _⟩ => exact Nat.add_comm _ _
    | ⟨1, _⟩ => rfl

omit hk in
/-- After the last row the next key is minus one, which no key equals. -/
theorem nextOf_last (i : Fin 59) (hi : ¬ i.val + 1 < 59) : nextOf k (ix2 i 0) = ((-1 : ℝ) : EReal) := by
  unfold nextOf
  refine (concatenate_pair_apply_right (t := S59x1) 0 _ _ concatenates_S58x1_S1x1_S59x1_d0 (ix2 i 0) rfl rfl (ix2 (0 : Fin 1) (0 : Fin 1)) (fun b hb => ?_)
    (show 0 + 58 = i.val by omega)).trans bits_neg_one
  match b with
  | ⟨0, _⟩ => exact absurd rfl hb
  | ⟨1, _⟩ => rfl

open Classical in
/-- Whether a row is the last of its run. -/
theorem runEnds_apply (i : Fin 59) : runEnds k (ix2 i 0) = bit (IsEnd key i) := by
  show FloatOps.cmpf (F := Ideal) (φ := .f32) .one (k (ix2 i 0)) (nextOf k (ix2 i 0)) = _
  rw [cmpf_one]
  refine bit_congr ?_
  by_cases hi : i.val + 1 < 59
  · rw [nextOf_inner k i hi, hk, hk]
    exact ⟨fun e _ h' => e (nr_inj.mpr h'), fun e h' => e hi (nr_inj.mp h')⟩
  · rw [nextOf_last k i hi, hk]
    exact ⟨fun _ h' => absurd h' hi, fun _ h' => nr_ne_neg_one (key i) h'.symm⟩

open Classical in
/-- The picking matrix has a one where the row is the key of a run's last place. -/
theorem picker_apply (r : Fin 137) (i : Fin 59) : picker k (ix2 r i) = if r.val = key i ∧ IsEnd key i then (1 : EReal) else 0 := by
  have hr : (broadcastTo S137x59 (sitofp .f32 (iota .tc S137x1 32 [0] iota_S137x1_d0_w32) : FVec Ideal S137x1 .f32) broadcasts_S137x1_S137x59) (ix2 r i)
      = nr r.val := by
    rw [broadcastTo_col, sitofp_apply, iota_single_apply]; exact num_iota r.val (by omega)
  have hc : broadcastTo S137x59 (shapeCast S1x59 (asRow k) shapeCasts_S1x59_S1x59) broadcasts_S1x59_S137x59 (ix2 r i) = nr (key i) := by
    rw [broadcastTo_1b_ab_apply, shapeCast_self, asRow_apply, hk]
  have he : broadcastTo S137x59 (shapeCast S1x59 (asRow (sitofp .f32 (extui 32 (runEnds k) natLt_1_32) : FVec Ideal S59x1 .f32)) shapeCasts_S1x59_S1x59)
      broadcasts_S1x59_S137x59 (ix2 r i) = if IsEnd key i then (1 : EReal) else 0 := by
    rw [broadcastTo_1b_ab_apply, shapeCast_self, asRow_apply, sitofp_apply, extui_apply, runEnds_apply k key hk, num_bit]
  have hpos : (Ideal.ofBits .f32 0x00000000#32 < if IsEnd key i then (1 : EReal) else 0) ↔ IsEnd key i := by
    rw [bits_zero]; split <;> simp [*]
  refine Eq.trans (b := (FloatOps.sitofp .f32 ((IntOp.andi (FloatOps.cmpf (F := Ideal) (φ := .f32) .oeq (nr r.val) (nr (key i)))
    (FloatOps.cmpf (F := Ideal) (φ := .f32) .ogt (if IsEnd key i then (1 : EReal) else 0) (Ideal.ofBits .f32 0x00000000#32))).setWidth 32) : Ideal .f32)) ?_ ?_
  · rw [← hr, ← hc, ← he]; rfl
  · rw [cmpf_oeq, cmpf_ogt, andi_bit, bit_congr (and_congr nr_inj hpos), num_bit]

/-- Picking the runs' last rows gives the pool of each key. -/
theorem pickRows_apply (mono : Monotone key) (v : FVec Ideal S59x768 .f32) (r : Fin 137) (c : Fin 768) :
    pickRows (picker k) (runV k v) (ix2 r c) = pool key (fun i => v (ix2 i c)) r.val := by
  classical
  refine (mul_plain _ rfl _ _ _ r c).trans ?_
  simp only [picker_apply k key hk]
  exact sum_ends mono (by decide) (runV_covers k key hk mono v c) r.val

/-- The same of a column. -/
theorem pickCol_apply (mono : Monotone key) (v : FVec Ideal S59x1 .f32) (r : Fin 137) :
    pickCol (picker k) (runC k v) (ix2 r 0) = pool key (fun i => v (ix2 i 0)) r.val := by
  classical
  refine (mul_plain _ rfl _ _ _ r 0).trans ?_
  simp only [picker_apply k key hk]
  exact sum_ends mono (by decide) (runC_covers k key hk mono v) r.val

end Ends

/-! ## One batch -/

/-- The weights, entry by entry. -/
theorem weightOf_apply (best : FVec Ideal S59x1 .f32) (j : S59x1.Idx) : weightOf best j = weight (best j) := rfl

/-- The mixture, entry by entry. -/
theorem mix_apply (th : FVec Ideal S137x1 .f32) (s att : FVec Ideal S137x768 .f32) (k : Fin 137) (h : Fin 768) :
    mix th s att (ix2 k h) = (1 - th (ix2 k 0)) * s (ix2 k h) + th (ix2 k 0) * att (ix2 k h) := by
  show broadcastTo S137x768 _ _ (ix2 k h) * _ + broadcastTo S137x768 th _ (ix2 k h) * _ = _
  rw [broadcastTo_col, broadcastTo_col]
  show (Ideal.ofBits .f32 0x3F800000#32 - _) * _ + _ = _
  rw [bits_one]

/-- The merge from the likenesses is the mixture of the strong patches with their pools. -/
theorem mergeSim_apply (s : FVec Ideal S137x768 .f32) (w : FVec Ideal S59x768 .f32) (k : Fin 137) (h : Fin 768) :
    mergeSim s w (likeness w s) (ix2 k h) = mixed (fun k h => s (ix2 k h)) (fun i h => w (ix2 i h)) k h := by
  have hK : ∀ i, assignOf (likeness w s) (ix2 i 0) = nr (goal (fun k h => s (ix2 k h)) fun h => w (ix2 i h)) := by
    intro i; rw [assignOf_apply]; simp only [likeness_apply]; rfl
  have hW : ∀ i, weightOf (bestOf (likeness w s)) (ix2 i 0) = gain (fun k h => s (ix2 k h)) fun h => w (ix2 i h) := by
    intro i
    rw [weightOf_apply, bestOf_apply]; simp only [likeness_apply]; rfl
  have hk := fun p => (sortCol_apply _ _ hK (assignOf (likeness w s)) p).trans (hK _)
  have mono : Monotone fun p => goal (fun k h => s (ix2 k h)) fun h => w (ix2 (atRank (lower_strict fun i => goal (fun k h => s (ix2 k h)) fun h => w (ix2 i h)) p) h) :=
    fun _ _ hij => lower_mono (fun i => goal (fun k h => s (ix2 k h)) fun h => w (ix2 i h)) hij
  unfold mergeSim
  rw [mix_apply, pickRows_apply _ _ hk mono, pickCol_apply _ _ hk mono]
  simp only [sortRows_apply _ _ hK, sortCol_apply _ _ hK, hW]
  have perm := fun n : Fin 59 => show (∃ p, atRank (lower_strict fun i => goal (fun k h => s (ix2 k h)) fun h => w (ix2 i h)) p = n) ↔ ∃ j : Fin 59, id j = n from
    ⟨fun _ => ⟨n, rfl⟩, fun _ => ⟨_, Equiv.apply_symm_apply _ n⟩⟩
  rw [pool_congr _ id perm (fun i => goal (fun k h => s (ix2 k h)) fun h => w (ix2 i h)) (fun i => gain (fun k h => s (ix2 k h)) fun h => w (ix2 i h)),
    pool_congr _ id perm (fun i => goal (fun k h => s (ix2 k h)) fun h => w (ix2 i h)) (fun i => w (ix2 i h))]
  rfl

/-- One batch's output is the merge of its image under the scores. -/
theorem batchOut_apply (sc : FVec Ideal S1x196 .f32) (img : FVec Ideal S1x196x768 .f32) (k : Fin 137) (h : Fin 768) :
    batchOut sc img (ix3 0 k h) = merged (fun n => sc (ix2 0 n)) (fun n h => img (ix3 0 n h)) k h := by
  unfold batchOut
  rw [shapeCast_ab_1ab_apply, mergeSim_apply]
  simp only [strongOf_apply, weakOf_apply]
  rfl

end Cert.KernelIdeal.Stages

end
-- ==== Proof.KernelArray.lean ====
/-
  The kernel's output array after its run, at exact arithmetic: batch by batch, the merge of the batch's image.
-/
module

public import proofs.«01_k».proof.Proof.KernelMerge
public import proofs.«01_k».proof.Proof.Gen.KernelIdeal.Value

@[expose] public section

noncomputable section

namespace Cert.KernelIdeal.Stages

open Cert.KernelIdeal Cert.KernelIdeal.Gen Idealize.ShloMosaic Idealize.ShloMosaic.TcCoe Idealize.ShloMosaic.ValueIdx Cert.Merge Finset
open Idealize.SL.Sem
open Idealize.ShloMosaic.Pipeline (Dat Window)

/-! ## Loads -/

/-- One slab of a rank-three array. -/
theorem ld3 {A B C : ℕ} (x : FVec Ideal ⟨3, ![A, B, C]⟩ .f32) (off : ℕ) (ho : off < A)
    (inb : ∀ a, (![off, 0, 0] : Fin 3 → ℕ) a + (⟨3, ![1, B, C]⟩ : Shape).size a ≤ (⟨3, ![A, B, C]⟩ : Shape).size a) (i : Fin B) (j : Fin C) :
    View.ld (Val := Elt Ideal) (e' := .f32) x (Rect.unit (s := ⟨3, ![A, B, C]⟩) ![off, 0, 0] (⟨3, ![1, B, C]⟩ : Shape).size inb) (ix3 0 i j)
      = x (ix3 ⟨off, ho⟩ i j) := by
  refine congrArg x (funext fun a => Fin.ext ?_)
  match a with
  | ⟨0, _⟩ => rfl
  | ⟨1, _⟩ => show 0 + 1 * i.val = i.val; omega
  | ⟨2, _⟩ => show 0 + 1 * j.val = j.val; omega

/-- One row of a matrix. -/
theorem ld2 {A B : ℕ} (x : FVec Ideal ⟨2, ![A, B]⟩ .f32) (off : ℕ) (ho : off < A)
    (inb : ∀ a, (![off, 0] : Fin 2 → ℕ) a + (⟨2, ![1, B]⟩ : Shape).size a ≤ (⟨2, ![A, B]⟩ : Shape).size a) (j : Fin B) :
    View.ld (Val := Elt Ideal) (e' := .f32) x (Rect.unit (s := ⟨2, ![A, B]⟩) ![off, 0] (⟨2, ![1, B]⟩ : Shape).size inb) (ix2 0 j)
      = x (ix2 ⟨off, ho⟩ j) := by
  refine congrArg x (funext fun a => Fin.ext ?_)
  match a with
  | ⟨0, _⟩ => rfl
  | ⟨1, _⟩ => show 0 + 1 * j.val = j.val; omega

/-! ## The scores -/

variable (x0 : FVec Ideal S8x768 .f32) (x1 : FVec Ideal S8x196x768 .f32) (x2 x3 : FVec Ideal S12x768x64 .f32)

/-- The query of batch `b`. -/
abbrev queryOf (b : Fin 8) : Patch := fun e => x0 (ix2 b e)
/-- The patches of batch `b`. -/
abbrev imageOf (b : Fin 8) : Fin 196 → Patch := fun n e => x1 (ix3 b n e)
/-- The matrix of head `h`. -/
abbrev matrixOf (w : FVec Ideal S12x768x64 .f32) (h : Fin 12) : Fin 768 → Fin 64 → EReal := fun e d => w (ix3 h e d)

/-- Head `h`'s row in the scores of parity `p`. -/
def rowOfHead (p : Fin 2) (h : Fin 12) (n : Fin 196) : EReal :=
  headScore (queryOf x0 (batchOf p h)) (imageOf x1 (batchOf p h)) (matrixOf x2 h) (matrixOf x3 h) n

section Rows

variable (p : Fin 2) (h : Fin 12) {n : Fin 196} {img : FVec Ideal S1x196x768 .f32} {q : FVec Ideal S1x768 .f32}
  {a0 a1 a2 b0 b1 b2 : FVec Ideal S1x768x64 .f32}

/-- A head's row, when the blocks it reads are those of its batch and its own matrices. -/
theorem row_eq (g : Fin 3) (hi : ∀ n e, img (ix3 0 n e) = x1 (ix3 (batchOf p h) n e)) (hq : ∀ e, q (ix2 0 e) = x0 (ix2 (batchOf p h) e))
    (ha : ∀ e d, (![a0, a1, a2] g) (ix3 0 e d) = x2 (ix3 h e d)) (hb : ∀ e d, (![b0, b1, b2] g) (ix3 0 e d) = x3 (ix3 h e d)) :
    (![head0 (keys img b0 b1 b2) (queries q a0 a1 a2), head1 (keys img b0 b1 b2) (queries q a0 a1 a2),
      head2 (keys img b0 b1 b2) (queries q a0 a1 a2)] g) (ix2 0 n) = rowOfHead x0 x1 x2 x3 p h n := by
  rw [head_eq]; simp only [hi, hq, ha, hb]; rfl

/-- The first head of a group. -/
theorem row0_eq (hi : ∀ n e, img (ix3 0 n e) = x1 (ix3 (batchOf p h) n e) := by exact fun n e => ld3 _ _ _ _ n e)
    (hq : ∀ e, q (ix2 0 e) = x0 (ix2 (batchOf p h) e) := by exact fun e => ld2 _ _ _ _ e)
    (ha : ∀ e d, a0 (ix3 0 e d) = x2 (ix3 h e d) := by exact fun e d => ld3 _ _ _ _ e d)
    (hb : ∀ e d, b0 (ix3 0 e d) = x3 (ix3 h e d) := by exact fun e d => ld3 _ _ _ _ e d) :
    head0 (keys img b0 b1 b2) (queries q a0 a1 a2) (ix2 0 n) = rowOfHead x0 x1 x2 x3 p h n :=
  row_eq x0 x1 x2 x3 p h 0 hi hq ha hb

/-- The second head of a group. -/
theorem row1_eq (hi : ∀ n e, img (ix3 0 n e) = x1 (ix3 (batchOf p h) n e) := by exact fun n e => ld3 _ _ _ _ n e)
    (hq : ∀ e, q (ix2 0 e) = x0 (ix2 (batchOf p h) e) := by exact fun e => ld2 _ _ _ _ e)
    (ha : ∀ e d, a1 (ix3 0 e d) = x2 (ix3 h e d) := by exact fun e d => ld3 _ _ _ _ e d)
    (hb : ∀ e d, b1 (ix3 0 e d) = x3 (ix3 h e d) := by exact fun e d => ld3 _ _ _ _ e d) :
    head1 (keys img b0 b1 b2) (queries q a0 a1 a2) (ix2 0 n) = rowOfHead x0 x1 x2 x3 p h n :=
  row_eq x0 x1 x2 x3 p h 1 hi hq ha hb

/-- The third head of a group. -/
theorem row2_eq (hi : ∀ n e, img (ix3 0 n e) = x1 (ix3 (batchOf p h) n e) := by exact fun n e => ld3 _ _ _ _ n e)
    (hq : ∀ e, q (ix2 0 e) = x0 (ix2 (batchOf p h) e) := by exact fun e => ld2 _ _ _ _ e)
    (ha : ∀ e d, a2 (ix3 0 e d) = x2 (ix3 h e d) := by exact fun e d => ld3 _ _ _ _ e d)
    (hb : ∀ e d, b2 (ix3 0 e d) = x3 (ix3 h e d) := by exact fun e d => ld3 _ _ _ _ e d) :
    head2 (keys img b0 b1 b2) (queries q a0 a1 a2) (ix2 0 n) = rowOfHead x0 x1 x2 x3 p h n :=
  row_eq x0 x1 x2 x3 p h 2 hi hq ha hb

end Rows

/-- A mean of twelve rows each known at an index. -/
theorem mean12_apply {a0 a1 a2 a3 a4 a5 a6 a7 a8 a9 a10 a11 : FVec Ideal S1x196 .f32} {f : Fin 12 → EReal} {n : Fin 196}
    (h0 : a0 (ix2 0 n) = f 0) (h1 : a1 (ix2 0 n) = f 1) (h2 : a2 (ix2 0 n) = f 2) (h3 : a3 (ix2 0 n) = f 3) (h4 : a4 (ix2 0 n) = f 4)
    (h5 : a5 (ix2 0 n) = f 5) (h6 : a6 (ix2 0 n) = f 6) (h7 : a7 (ix2 0 n) = f 7) (h8 : a8 (ix2 0 n) = f 8) (h9 : a9 (ix2 0 n) = f 9)
    (h10 : a10 (ix2 0 n) = f 10) (h11 : a11 (ix2 0 n) = f 11) :
    mean12 a0 a1 a2 a3 a4 a5 a6 a7 a8 a9 a10 a11 (ix2 0 n) = Ideal.div (∑ g, f g) (Ideal.ofBits .f32 0x41400000#32) := by
  rw [sum12, ← h0, ← h1, ← h2, ← h3, ← h4, ← h5, ← h6, ← h7, ← h8, ← h9, ← h10, ← h11]; rfl

/-- The scores of the even batches. -/
theorem score0_apply (n : Fin 196) :
    score0 (F := Ideal) x0 x1 x2 x3 (ix2 0 n) = meanScore (queryOf x0) (imageOf x1) (matrixOf x2) (matrixOf x3) 0 n :=
  mean12_apply (f := fun h => rowOfHead x0 x1 x2 x3 0 h n)
      (row0_eq x0 x1 x2 x3 0 0)
      (row0_eq x0 x1 x2 x3 0 1)
      (row0_eq x0 x1 x2 x3 0 2)
      (row0_eq x0 x1 x2 x3 0 3)
      (row1_eq x0 x1 x2 x3 0 4)
      (row1_eq x0 x1 x2 x3 0 5)
      (row1_eq x0 x1 x2 x3 0 6)
      (row1_eq x0 x1 x2 x3 0 7)
      (row2_eq x0 x1 x2 x3 0 8)
      (row2_eq x0 x1 x2 x3 0 9)
      (row2_eq x0 x1 x2 x3 0 10)
      (row2_eq x0 x1 x2 x3 0 11)

/-- The scores of the odd batches. -/
theorem score1_apply (n : Fin 196) :
    score1 (F := Ideal) x0 x1 x2 x3 (ix2 0 n) = meanScore (queryOf x0) (imageOf x1) (matrixOf x2) (matrixOf x3) 1 n :=
  mean12_apply (f := fun h => rowOfHead x0 x1 x2 x3 1 h n)
      (row0_eq x0 x1 x2 x3 1 0)
      (row0_eq x0 x1 x2 x3 1 1)
      (row0_eq x0 x1 x2 x3 1 2)
      (row0_eq x0 x1 x2 x3 1 3)
      (row1_eq x0 x1 x2 x3 1 4)
      (row1_eq x0 x1 x2 x3 1 5)
      (row1_eq x0 x1 x2 x3 1 6)
      (row1_eq x0 x1 x2 x3 1 7)
      (row2_eq x0 x1 x2 x3 1 8)
      (row2_eq x0 x1 x2 x3 1 9)
      (row2_eq x0 x1 x2 x3 1 10)
      (row2_eq x0 x1 x2 x3 1 11)

/-! ## The output block -/

/-- What the output block holds. -/
def outAt (y : S8x137x768.Idx) : EReal := result (queryOf x0) (imageOf x1) (matrixOf x2) (matrixOf x3) (y 0) (y 1) (y 2)

/-- One batch's output, put at its slab. -/
theorem piece_eq (b : ℕ) (hb : b < 8) (sc : FVec Ideal S1x196 .f32) (p : Fin 2) (hp : parity ⟨b, hb⟩ = p)
    (hs : ∀ n, sc (ix2 0 n) = meanScore (queryOf x0) (imageOf x1) (matrixOf x2) (matrixOf x3) p n)
    (inb : ∀ a, (![b, 0, 0] : Fin 3 → ℕ) a + S1x196x768.size a ≤ S8x196x768.size a)
    (inb' : ∀ a, (![b, 0, 0] : Fin 3 → ℕ) a + S1x137x768.size a ≤ S8x137x768.size a) (x : S1x137x768.Idx) :
    batchOut sc (View.ld (Val := Elt Ideal) (e' := .f32) x1 (Rect.unit (s := S8x196x768) ![b, 0, 0] S1x196x768.size inb)) x
      = outAt x0 x1 x2 x3 ((Rect.unit (s := S8x137x768) ![b, 0, 0] S1x137x768.size inb').emb x) := by
  have h0 : x 0 = (0 : Fin 1) := Subsingleton.elim (α := Fin 1) _ _
  have e : (Rect.unit (s := S8x137x768) ![b, 0, 0] S1x137x768.size inb').emb x = ix3 ⟨b, hb⟩ (x 1) (x 2) := by
    funext a; apply Fin.ext; rw [Rect.emb_apply]
    match a with
    | ⟨0, _⟩ => show b + 1 * (x 0).val = b; rw [h0]; exact Nat.add_zero b
    | ⟨1, _⟩ => show 0 + 1 * (x 1).val = (x 1).val; omega
    | ⟨2, _⟩ => show 0 + 1 * (x 2).val = (x 2).val; omega
  rw [e, eq_ix3 x]
  refine (congrArg (fun z : Fin 1 => batchOut sc _ (ix3 z (x 1) (x 2))) h0).trans ?_
  refine (batchOut_apply sc _ (x 1) (x 2)).trans ?_
  show _ = merged (meanScore _ _ _ _ (parity ⟨b, hb⟩)) (imageOf x1 ⟨b, hb⟩) (x 1) (x 2)
  rw [hp]
  refine congrFun (congrFun (congrArg₂ merged (funext hs) (funext fun n => funext fun h => ?_)) _) _
  exact ld3 x1 b hb inb n h

/-- The kernel's output block. -/
theorem out_apply : out0_4 (F := Ideal) x0 x1 x2 x3 = outAt x0 x1 x2 x3 := by
  rw [out_eq]
  funext y
  refine View.canon_apply_of_pieces (Val := Elt Ideal) (outAt x0 x1 x2 x3) _ ?_ y (cover0_4 _ _ _ _ _ _ _ _ y)
  simp only [List.forall_mem_cons]
  exact ⟨fun x => piece_eq x0 x1 x2 x3 7 (by decide) _ 1 rfl (score1_apply x0 x1 x2 x3) _ _ x,
    fun x => piece_eq x0 x1 x2 x3 6 (by decide) _ 0 rfl (score0_apply x0 x1 x2 x3) _ _ x,
    fun x => piece_eq x0 x1 x2 x3 5 (by decide) _ 1 rfl (score1_apply x0 x1 x2 x3) _ _ x,
    fun x => piece_eq x0 x1 x2 x3 4 (by decide) _ 0 rfl (score0_apply x0 x1 x2 x3) _ _ x,
    fun x => piece_eq x0 x1 x2 x3 3 (by decide) _ 1 rfl (score1_apply x0 x1 x2 x3) _ _ x,
    fun x => piece_eq x0 x1 x2 x3 2 (by decide) _ 0 rfl (score0_apply x0 x1 x2 x3) _ _ x,
    fun x => piece_eq x0 x1 x2 x3 1 (by decide) _ 1 rfl (score1_apply x0 x1 x2 x3) _ _ x,
    fun x => piece_eq x0 x1 x2 x3 0 (by decide) _ 0 rfl (score0_apply x0 x1 x2 x3) _ _ x, by simp⟩

/-! ## The array -/

variable (m : (ℓ : Loc nD τ sig) → Buf (Elt Ideal) ℓ) (ρ : Dev nD → PrngReg)

/-- The array of queries: the first row of each batch's text states. -/
def firstRows (x : FVec Ideal S8x77x768 .f32) : FVec Ideal S8x768 .f32 :=
  shapeCast S8x768 (extractStridedSlice S8x1x768 ![0, 0, 0] x slices_S8x77x768_S8x1x768_0_0_0) shapeCasts_S8x1x768_S8x768

/-- The queries are the first text row of every batch. -/
theorem firstRows_apply (x : FVec Ideal S8x77x768 .f32) (b : Fin 8) (e : Fin 768) : firstRows x (ix2 b e) = x (ix3 b 0 e) := by
  refine (shapeCast_apply _ shapeCasts_S8x1x768_S8x768 (ix2 b e) (ix3 b (0 : Fin 1) e) (by
    rw [Shape.rowMajor_val_three, Shape.rowMajor_val_two]
    show (b.val * 1 + 0) * 768 + e.val = b.val * 768 + e.val
    omega)).trans ?_
  refine extractStridedSlice_apply _ _ _ _ _ fun a => ?_
  match a with
  | ⟨0, _⟩ => show b.val = 0 + b.val; omega
  | ⟨1, _⟩ => rfl
  | ⟨2, _⟩ => show e.val = 0 + e.val; omega

/-- The host's two operations leave the queries. -/
theorem V_main_v1 (c : Dev nD) : V m c main_v1 = firstRows (m ((c : Thread nD τ).loc main_arg0)) := by
  show StableHlo.after hostOps0 (fun b => m (c, b)) (Proc.devRef .tc main_v1) = _
  rw [StableHlo.after_cons, StableHlo.after_cons, StableHlo.after_nil, StableHlo.reshape_result', StableHlo.unary_result']
  rfl

/-- The one block of each input window is its whole array. -/
theorem iblk0_eq (c : Dev nD) (t : Fin cfg0.N) : iblk m c 0 t = firstRows (m ((c : Thread nD τ).loc main_arg0)) := by
  rw [← V_main_v1 m c]
  funext z
  exact congrArg (V m c main_v1) (funext fun a => Fin.ext (win0_0.rect_emb_val_of_index_zero t a rfl z))

/-- The block of images the kernel reads is the whole argument. -/
theorem iblk1_eq (c : Dev nD) (t : Fin cfg0.N) : iblk m c 1 t = m ((c : Thread nD τ).loc main_arg1) := by
  rw [← V_main_arg1 m c]
  funext z
  exact congrArg (V m c main_arg1) (funext fun a => Fin.ext (win0_1.rect_emb_val_of_index_zero t a rfl z))

/-- The block of query matrices is the whole argument. -/
theorem iblk2_eq (c : Dev nD) (t : Fin cfg0.N) : iblk m c 2 t = m ((c : Thread nD τ).loc main_arg3) := by
  rw [← V_main_arg3 m c]
  funext z
  exact congrArg (V m c main_arg3) (funext fun a => Fin.ext (win0_2.rect_emb_val_of_index_zero t a rfl z))

/-- The block of key matrices is the whole argument. -/
theorem iblk3_eq (c : Dev nD) (t : Fin cfg0.N) : iblk m c 3 t = m ((c : Thread nD τ).loc main_arg2) := by
  rw [← V_main_arg2 m c]
  funext z
  exact congrArg (V m c main_arg2) (funext fun a => Fin.ext (win0_3.rect_emb_val_of_index_zero t a rfl z))

/-- The output array: every batch's image, merged. -/
def outOf (c : Dev nD) : FVec Ideal S8x137x768 .f32 := fun y =>
  result (fun b e => m ((c : Thread nD τ).loc main_arg0) (ix3 b 0 e)) (imageOf (m ((c : Thread nD τ).loc main_arg1)))
    (matrixOf (m ((c : Thread nD τ).loc main_arg3))) (matrixOf (m ((c : Thread nD τ).loc main_arg2))) (y 0) (y 1) (y 2)

/-- The body's output from its blocks is the output from the arguments. -/
theorem out_of (c : Dev nD) (t : Fin cfg0.N) :
    out0_4 (iblk m c 0 t) (iblk m c 1 t) (iblk m c 2 t) (iblk m c 3 t) = outOf m c := by
  rw [iblk0_eq, iblk1_eq, iblk2_eq, iblk3_eq]
  refine (out_apply _ _ _ _).trans (funext fun y => ?_)
  refine congrFun (congrFun (congrFun (congrArg (fun q => result q _ _ _) (funext fun b => funext fun e => ?_)) _) _) _
  exact firstRows_apply _ b e

/-- The output window's one block is its whole array. -/
theorem emb4 (t : Fin cfg0.N) (z : S8x137x768.Idx) : ((cfg0.win 4).blk t).view.emb z = z :=
  funext fun a => Fin.ext (win0_4.rect_emb_val_of_index_zero t a rfl z)

/-- What is written back is the output's own block. -/
theorem flushed_eq (c : Dev nD) (t : Fin cfg0.N) :
    (dats m 0 c).flushed 4 t = ((cfg0.win 4).blk t).view.read (Elt Ideal) (outOf m c) := by
  rw [Value.flushed4, out_of]
  exact funext fun z => (congrArg (outOf m c) (emb4 t z)).symm

/-- Every place of the result is written back. -/
theorem cover (i : S8x137x768.Idx) : ∃ t : Fin cfg0.N, (cfg0.win 4).flush t = true ∧ i ∈ ((cfg0.win 4).blk t).view.set := by
  refine ⟨t0_0, flush0_4 _, ?_⟩
  have h := ((cfg0.win 4).blk t0_0).view.emb_mem_set i
  rw [emb4] at h
  exact h

/-- The result array after the run is the output from the arguments. -/
theorem final (c : Dev nD) : (dats m 0 c).arrAt 4 cfg0.N = outOf m c :=
  (dats m 0 c).arrAt_eq_of_cover 4 (outOf m c) (fun t _ => flushed_eq m c t) cover

/-- The run: every core's output array holds the merge, its arguments as they were. -/
theorem run : θ_run defs (onTc (τ := τ) (main (F := Ideal))) ⟨m, fun _ => 0, ρ⟩ fun r => ∀ c : Dev nD,
      r.2.mem ((c : Thread nD τ).loc main_v2) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Stages

end
-- ==== Proof.Sorted.lean ====
/-
  The positions a stable sort and the first of a sort name, a row gathered by position, and the greatest of a row, at
  exact arithmetic.
-/
module

public import proofs.«01_k».proof.Proof.Reads
public import proofs.«01_k».proof.Proof.Spec
public import Idealize.ShloMosaic.Lib.SortPrefix
public import Idealize.ShloMosaic.Lib.ValueIdx

@[expose] public section

noncomputable section

namespace Cert.Merge

open Idealize.ShloMosaic Idealize.ShloMosaic.ValueIdx Finset

/-! ## Indices equal axis by axis -/

/-- Indices of rank two. -/
theorem idx2 {A B : ℕ} {i j : (⟨2, ![A, B]⟩ : Shape).Idx} (h0 : (i 0).val = (j 0).val) (h1 : (i 1).val = (j 1).val) : i = j :=
  funext fun a => Fin.ext (match a with | ⟨0, _⟩ => h0 | ⟨1, _⟩ => h1)

/-- Indices of rank three. -/
theorem idx3 {A B C : ℕ} {i j : (⟨3, ![A, B, C]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

/-- Indices of rank four. -/
theorem idx4 {A B C D : ℕ} {i j : (⟨4, ![A, B, C, D]⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)

/-- The value at an index, read at one equal to it axis by axis. -/
theorem at2 {α : Type} {A B : ℕ} (f : (⟨2, ![A, B]⟩ : Shape).Idx → α) {i : (⟨2, ![A, B]⟩ : Shape).Idx} (j : (⟨2, ![A, B]⟩ : Shape).Idx)
    {z : α} (hz : f j = z) (h0 : (i 0).val = (j 0).val := by rfl) (h1 : (i 1).val = (j 1).val := by rfl) : f i = z :=
  (congrArg f (idx2 h0 h1)).trans hz

/-- A value at an index of rank three equal axis by axis to another. -/
theorem at3 {α : Type} {A B C : ℕ} (f : (⟨3, ![A, B, C]⟩ : Shape).Idx → α) {i : (⟨3, ![A, B, C]⟩ : Shape).Idx}
    (j : (⟨3, ![A, B, C]⟩ : Shape).Idx) {z : α} (hz : f j = z) (h0 : (i 0).val = (j 0).val := by rfl)
    (h1 : (i 1).val = (j 1).val := by rfl) (h2 : (i 2).val = (j 2).val := by rfl) : f i = z :=
  (congrArg f (idx3 h0 h1 h2)).trans hz

/-- The same at rank four. -/
theorem at4 {α : Type} {A B C D : ℕ} (f : (⟨4, ![A, B, C, D]⟩ : Shape).Idx → α) {i : (⟨4, ![A, B, C, D]⟩ : Shape).Idx}
    (j : (⟨4, ![A, B, C, D]⟩ : Shape).Idx) {z : α} (hz : f j = z) (h0 : (i 0).val = (j 0).val := by rfl)
    (h1 : (i 1).val = (j 1).val := by rfl) (h2 : (i 2).val = (j 2).val := by rfl) (h3 : (i 3).val = (j 3).val := by rfl) : f i = z :=
  (congrArg f (idx4 h0 h1 h2 h3)).trans hz

/-! ## A bit as a number, unsigned, and its negation -/

/-- The bit of a negation. -/
theorem not_bit (p : Prop) [Decidable p] : ~~~(bit p) = bit ¬p := by
  by_cases hp : p <;> simp [bit, hp]

/-- A bit as a number. -/
theorem unsigned_bit (p : Prop) [Decidable p] : (FloatOps.uitofp .f32 (bit p) : Ideal .f32) = if p then (1 : EReal) else 0 := by
  show (((bit p).toNat : ℝ) : EReal) = _
  by_cases hp : p
  · rw [if_pos hp, show bit p = 1#1 by simp [bit, hp]]; simp
  · rw [if_neg hp, show bit p = 0#1 by simp [bit, hp]]; simp

/-! ## Comparisons -/

open Classical in
/-- The comparison for greater or equal. -/
theorem cmpf_oge (x y : EReal) : FloatOps.cmpf (F := Ideal) (φ := .f32) .oge x y = bit (y ≤ x) := by
  show BitVec.ofBool _ = _; unfold bit; congr

open Classical in
/-- The comparison for less or equal. -/
theorem cmpf_ole (x y : EReal) : FloatOps.cmpf (F := Ideal) (φ := .f32) .ole x y = bit (x ≤ y) := by
  show BitVec.ofBool _ = _; unfold bit; congr

/-- What a set bit says. -/
theorem bit_one {p : Prop} [Decidable p] (h : bit p = 1#1) : p := by
  by_contra hp
  rw [show bit p = 0#1 by simp [bit, hp]] at h
  exact absurd h (by decide)

/-! ## The first of a row, the opposite order -/

/-- The entry of rank zero is the first greatest. -/
theorem atRank_first {K : ℕ} (f : Fin (K + 1) → EReal) (k : Fin (K + 1)) (hk : k.val = 0) : atRank (higher_strict f) k = first f :=
  ((rank_eq_iff (higher_strict f) k (first f)).mp (hk.trans (rank_first f).symm)).symm

/-- The order of the negated values is the lower first. -/
theorem atRank_neg {N : ℕ} (s : Fin N → EReal) (k : Fin N) : atRank (higher_strict fun n => -s n) k = atRank (lower_strict s) k := by
  have e : Higher (fun n => -s n) = Lower s := by
    funext m n; simp only [Higher, Lower, EReal.neg_lt_neg_iff, neg_inj]
  exact (rank_eq_iff (lower_strict s) k _).mp (by rw [← e, rank_atRank])

/-! ## Pools taken over all entries, those of another key at a low value -/

/-- The word of the pooling sentinel. -/
theorem bits_low : Ideal.ofBits .f32 0xC61C4000#32 = ((-10000 : ℝ) : EReal) := by
  simp [Ideal.ofBits, Ideal.ieee]; rw [← EReal.coe_mul]; norm_num

section Pools
variable {ι : Type} [Fintype ι] (key : ι → ℕ) (f : ι → EReal) (k : ℕ) (low : EReal)

/-- The sentinel doesn't change the greatest of a pool that is not empty and lies above it. -/
theorem sup_low (hlow : ∀ i, low ≤ f i) (h : ∃ i, key i = k) :
    (univ.sup fun i => if key i = k then f i else low) = (univ.filter (key · = k)).sup f := by
  refine le_antisymm (Finset.sup_le fun i _ => ?_) (Finset.sup_le fun i hi => ?_)
  · split
    · exact Finset.le_sup (f := f) (mem_filter.mpr ⟨mem_univ i, ‹_›⟩)
    · obtain ⟨j, hj⟩ := h
      exact (hlow j).trans (Finset.le_sup (f := f) (mem_filter.mpr ⟨mem_univ j, hj⟩))
  · refine le_trans ?_ (Finset.le_sup (f := fun i => if key i = k then f i else low) (mem_univ i))
    simp only [if_pos (mem_filter.mp hi).2, le_refl]

/-- The pool of values: zero when the count of the key is zero. -/
theorem pool_values (hlow : ∀ i, low ≤ f i) [Decidable (¬0 < ∑ i, if key i = k then (1 : EReal) else 0)] :
    (if ¬0 < ∑ i, (if key i = k then (1 : EReal) else 0) then 0 else univ.sup fun i => if key i = k then f i else low) = pool key f k := by
  have hs : (0 < ∑ i, (if key i = k then (1 : EReal) else 0)) ↔ ∃ i, key i = k := by
    rw [sum_ite_nr, ← nr_zero, nr_lt, Finset.card_pos]
    exact ⟨fun ⟨i, hi⟩ => ⟨i, (mem_filter.mp hi).2⟩, fun ⟨i, hi⟩ => ⟨i, mem_filter.mpr ⟨mem_univ i, hi⟩⟩⟩
  unfold pool
  by_cases h : ∃ i, key i = k
  · rw [if_neg (not_not.mpr (hs.mpr h)), if_pos h, sup_low key f k low hlow h]
  · rw [if_pos (fun h' => h (hs.mp h')), if_neg h]

/-- The pool of weights: zero when nothing rises above the low value. -/
theorem pool_weights [Nonempty ι] (hlow : ∀ i, low < f i) [Decidable ((univ.sup fun i => if key i = k then f i else low) = low)] :
    (if (univ.sup fun i => if key i = k then f i else low) = low then 0 else univ.sup fun i => if key i = k then f i else low)
      = pool key f k := by
  unfold pool
  by_cases h : ∃ i, key i = k
  · have e := sup_low key f k low (fun i => (hlow i).le) h
    obtain ⟨i, hi⟩ := h
    have : low < (univ.filter (key · = k)).sup f := (hlow i).trans_le (Finset.le_sup (f := f) (mem_filter.mpr ⟨mem_univ i, hi⟩))
    rw [if_neg (by rw [e]; exact this.ne'), if_pos ⟨i, hi⟩, e]
  · have e : (univ.sup fun i => if key i = k then f i else low) = low := by
      have : (fun i => if key i = k then f i else low) = fun _ => low := funext fun i => if_neg fun hi => h ⟨i, hi⟩
      rw [this, Finset.sup_const univ_nonempty]
    rw [if_pos e, if_neg h]

end Pools

/-- An exponential is not negative. -/
theorem exp_nonneg (x : EReal) : 0 ≤ Ideal.exp x := by
  induction x with
  | bot => exact le_rfl
  | top => exact le_top
  | coe r => exact EReal.coe_nonneg.mpr (Real.exp_pos r).le

/-- A weight is not negative. -/
theorem weight_nonneg (x : EReal) : 0 ≤ weight x := by
  have hc : (0 : EReal) < Ideal.ofBits .f32 0x402DF854#32 := by
    simp [Ideal.ofBits, Ideal.ieee]; rw [← EReal.coe_mul]; norm_num
  have hy : 0 < Ideal.exp x + Ideal.ofBits .f32 0x402DF854#32 := lt_of_lt_of_le hc (le_add_of_nonneg_left (exp_nonneg x))
  unfold weight Ideal.div
  rw [if_neg hy.ne']
  exact mul_nonneg (exp_nonneg x) (EReal.inv_nonneg_of_nonneg hy.le)

/-- A weight is above the sentinel. -/
theorem low_lt_weight (x : EReal) : Ideal.ofBits .f32 0xC61C4000#32 < weight x :=
  lt_of_lt_of_le (by rw [bits_low]; exact_mod_cast (by norm_num : (-10000 : ℝ) < 0)) (weight_nonneg x)

/-! ## The stable sort by value -/

section Stable
variable {N : ℕ} (s : Fin N → EReal)

/-- The higher value strictly first. -/
def above (m n : Fin N) : Bool := decide (s n < s m)

open Classical in
/-- The order the stable sort ends in: the higher first, equals by index. -/
def aboveThen (m n : Fin N) : Bool := decide (Higher s m n)

/-- The sort's order is strict and total. -/
theorem aboveThen_total : StrictTotalBefore (aboveThen s) where
  irrefl a := by simpa [aboveThen] using (higher_strict s).irrefl a
  trans a b c h1 h2 := by
    simp only [aboveThen, decide_eq_true_eq] at h1 h2 ⊢; exact (higher_strict s).trans a b c h1 h2
  total a b h := by
    simp only [aboveThen, decide_eq_true_eq]; exact (higher_strict s).total a b h

/-- Indices taken in increasing order are sorted alike by the two. -/
theorem stableSort_above (l : List (Fin N)) (hl : l.Pairwise (· < ·)) : stableSort (above s) l = stableSort (aboveThen s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp only [above, aboveThen, Higher]
    exact decide_eq_decide.mpr ⟨.inl, fun h => h.elim id fun h => absurd h.2 hab.not_gt⟩

/-- The place `k` of the sort from above holds the entry of rank `k`. -/
theorem sortedFrom_above (k : Fin N) : sortedFrom (above s) k = atRank (higher_strict s) k := by
  have e : sortedFrom (above s) = sortedFrom (aboveThen s) := by
    funext k
    have h : sortPositions N (above s) = sortPositions N (aboveThen s) := stableSort_above s _ (List.pairwise_lt_finRange N)
    unfold sortedFrom
    rw [List.get_of_eq h]; rfl
  rw [e]
  refine (aboveThen_total s).sortedFrom_eq_of_prefix le_rfl (fun i => atRank (higher_strict s) i) (atRank (higher_strict s)).injective
    (fun i j hij => ?_) (fun i p hp => absurd ((atRank (higher_strict s)).apply_symm_apply p) (hp _)) k
  exact (aboveThen_total s).asymm _ _ (by simpa [aboveThen] using (atRank_lt (higher_strict s)).mp hij)

end Stable

/-! ## The first of a sort -/

/-- The sort's comparison is the order of the reals. -/
theorem gt_eq (x y : EReal) : (FloatOps.cmpfTotal (F := Ideal) (φ := .f32) .gt x y == 1#1) = decide (y < x) := by
  show (FloatOps.cmpf (F := Ideal) (φ := .f32) .ogt x y == 1#1) = _
  rw [cmpf_ogt]; unfold bit; by_cases h : y < x <;> simp [h]

/-- The positions of the greatest along the second of two axes. -/
theorem topK2_apply {A N K : ℕ} (hK : K ≤ N) (x : FVec Ideal ⟨2, ![A, N]⟩ .f32)
    (h : (⟨2, ![A, N]⟩ : Shape).Slices (fun _ => 0) ⟨2, ![A, K]⟩) (b : Fin A) (k : Fin K) :
    (Host.topK ⟨2, ![A, K]⟩ 1 (FloatOps.cmpfTotal (F := Ideal) (φ := .f32) .gt) x h).2 (ix2 b k)
      = BitVec.ofNat 32 (atRank (higher_strict fun n => x (ix2 b n)) (k.castLE hK)).val := by
  have e (n : Fin N) : Shape.Idx.along (s := ⟨2, ![A, N]⟩) (ix2 b (k.castLE hK)) (1 : Fin 2) n = ix2 b n := by
    funext a; match a with | ⟨0, _⟩ => rfl | ⟨1, _⟩ => rfl
  have e2 := extractStridedSlice_apply (s := ⟨2, ![A, N]⟩) (t := ⟨2, ![A, K]⟩) (fun _ => 0)
    (Host.sort2 ⟨2, ![A, N]⟩ 1 (fun l r : EReal × BitVec 32 => FloatOps.cmpfTotal (F := Ideal) (φ := .f32) .gt l.1 r.1) x
      (fun i => if hd : 1 < (⟨2, ![A, N]⟩ : Shape).rank then iotaInDim ⟨2, ![A, N]⟩ 32 ⟨1, hd⟩ i else 0#32)).2 h (ix2 b k) (ix2 b (k.castLE hK))
    (fun a => match a with | ⟨0, _⟩ => (Nat.zero_add _).symm | ⟨1, _⟩ => (Nat.zero_add _).symm)
  refine e2.trans ?_
  show BitVec.ofNat 32 (sortedFrom _ (k.castLE hK) : Fin N).val = _
  rw [← sortedFrom_above]
  refine congrArg (fun z => BitVec.ofNat 32 (sortedFrom z (k.castLE hK) : Fin N).val) ?_
  funext m n
  refine (gt_eq _ _).trans ?_
  exact congrArg₂ (fun u v => decide (x u < x v)) (e n) (e m)

/-- The position of the greatest along the last of three axes. -/
theorem topK3_apply {A B N K : ℕ} (hK : K ≤ N) (x : FVec Ideal ⟨3, ![A, B, N]⟩ .f32)
    (h : (⟨3, ![A, B, N]⟩ : Shape).Slices (fun _ => 0) ⟨3, ![A, B, K]⟩) (b : Fin A) (i : Fin B) (k : Fin K) :
    (Host.topK ⟨3, ![A, B, K]⟩ 2 (FloatOps.cmpfTotal (F := Ideal) (φ := .f32) .gt) x h).2 (ix3 b i k)
      = BitVec.ofNat 32 (atRank (higher_strict fun n => x (ix3 b i n)) (k.castLE hK)).val := by
  have e (n : Fin N) : Shape.Idx.along (s := ⟨3, ![A, B, N]⟩) (ix3 b i (k.castLE hK)) (2 : Fin 3) n = ix3 b i n := by
    funext a; match a with | ⟨0, _⟩ => rfl | ⟨1, _⟩ => rfl | ⟨2, _⟩ => rfl
  have e2 := extractStridedSlice_apply (s := ⟨3, ![A, B, N]⟩) (t := ⟨3, ![A, B, K]⟩) (fun _ => 0)
    (Host.sort2 ⟨3, ![A, B, N]⟩ 2 (fun l r : EReal × BitVec 32 => FloatOps.cmpfTotal (F := Ideal) (φ := .f32) .gt l.1 r.1) x
      (fun i => if hd : 2 < (⟨3, ![A, B, N]⟩ : Shape).rank then iotaInDim ⟨3, ![A, B, N]⟩ 32 ⟨2, hd⟩ i else 0#32)).2 h (ix3 b i k) (ix3 b i (k.castLE hK))
    (fun a => match a with | ⟨0, _⟩ => (Nat.zero_add _).symm | ⟨1, _⟩ => (Nat.zero_add _).symm | ⟨2, _⟩ => (Nat.zero_add _).symm)
  refine e2.trans ?_
  show BitVec.ofNat 32 (sortedFrom _ (k.castLE hK) : Fin N).val = _
  rw [← sortedFrom_above]
  refine congrArg (fun z => BitVec.ofNat 32 (sortedFrom z (k.castLE hK) : Fin N).val) ?_
  funext m n
  refine (gt_eq _ _).trans ?_
  exact congrArg₂ (fun u v => decide (x u < x v)) (e n) (e m)

/-! ## A row by its position -/

/-- The dimension numbers of taking, batch by batch, the `K` rows a list of positions names. -/
abbrev rows (A N C K : ℕ) (wf : GatherDims.WF ⟨3, ![A, N, C]⟩ ⟨3, ![A, K, 1]⟩ ⟨3, ![A, K, C]⟩ [2] [1] [0] [1] [0] 2 ![1, 1, C]) :
    GatherDims ⟨3, ![A, N, C]⟩ ⟨3, ![A, K, 1]⟩ ⟨3, ![A, K, C]⟩ where
  offsetDims := [2]
  collapsedSliceDims := [1]
  operandBatchingDims := [0]
  startIndicesBatchingDims := [0]
  startIndexMap := [1]
  indexVectorDim := 2
  sliceSizes := ![1, 1, C]
  wf := wf

/-- A gathered row is the row its position names. -/
theorem gather_rows_apply {A N C K : ℕ} (wf) (x : FVec Ideal ⟨3, ![A, N, C]⟩ .f32) (idx : IVec ⟨3, ![A, K, 1]⟩ 32) (b : Fin A) (k : Fin K)
    (c : Fin C) (n : Fin N) (hn : (idx (ix3 b k 0)).toInt = n.val) :
    Host.gather (rows A N C K wf) x idx (ix3 b k c) = x (ix3 b n c) := by
  refine congrArg x (funext fun a => Fin.ext ?_)
  match a with
  | ⟨0, _⟩ =>
    show (rows A N C K wf).start (ix3 b k c) idx 0 + (rows A N C K wf).batchCoord (ix3 b k c) 0 + (rows A N C K wf).offCoord (ix3 b k c) 0 = b.val
    rw [GatherDims.start_batching _ _ _ _ (by decide : (0 : Fin 3) ∈ [0]),
      GatherDims.offCoord_eq_zero _ _ _ fun h => ((GatherDims.mem_sKept _ _).1 h).2 (by decide : (0 : Fin 3) ∈ [0]), Nat.zero_add, Nat.add_zero]
    rfl
  | ⟨1, _⟩ =>
    show (rows A N C K wf).start (ix3 b k c) idx 1 + (rows A N C K wf).batchCoord (ix3 b k c) 1 + (rows A N C K wf).offCoord (ix3 b k c) 1 = n.val
    rw [GatherDims.batchCoord_eq_zero _ _ _ (by decide : (1 : Fin 3) ∉ [0]),
      GatherDims.offCoord_eq_zero _ _ _ fun h => ((GatherDims.mem_sKept _ _).1 h).1 (by decide : (1 : Fin 3) ∈ [1])]
    have e : (rows A N C K wf).siIdx (ix3 b k c) ⟨0, Nat.one_pos⟩ = ix3 b k 0 := by
      funext a; match a with | ⟨0, _⟩ => rfl | ⟨1, _⟩ => rfl | ⟨2, _⟩ => rfl
    show min (idx ((rows A N C K wf).siIdx (ix3 b k c) ⟨0, Nat.one_pos⟩)).toInt.toNat (N - 1) = n.val
    rw [e, hn]
    have := n.isLt
    simp only [Int.toNat_natCast]; omega
  | ⟨2, _⟩ =>
    show (rows A N C K wf).start (ix3 b k c) idx 2 + (rows A N C K wf).batchCoord (ix3 b k c) 2 + (rows A N C K wf).offCoord (ix3 b k c) 2 = c.val
    rw [GatherDims.batchCoord_eq_zero _ _ _ (by decide : (2 : Fin 3) ∉ [0])]
    show 0 + 0 + c.val = c.val
    omega

/-! ## The greatest of a row -/

/-- A maximum from minus infinity along one axis. -/
theorem hostMax_apply {s t : Shape} {a : Fin s.rank} (x : FVec Ideal s .f32) (h' : s.ReducesTo [a] t) (h : s.Reduces [a] t)
    (hu : 0 < (⟨0, ![]⟩ : Shape).numel) (j : t.Idx) :
    Host.reduce (FloatOps.maximumf (F := Ideal)) x (constant ⟨0, ![]⟩ .f32 0xFF800000#32) h' hu j
      = univ.sup (fun k => x (h.lift j k)) := by
  refine (Host.reduce_eq_fold_single (FloatOps.maximumf (F := Ideal) (φ := .f32)) x _ h' h hu j).trans ?_
  show univ.fold max (Ideal.ofBits .f32 0xFF800000#32) (x ∘ h.lift j) = _
  rw [bits_bot]; rfl

end Cert.Merge

end
-- ==== Proof.RefScores.lean ====
/-
  The reference's scores at exact arithmetic: for each batch, the mean over the heads of their softmaxed rows.
-/
module

public import proofs.«01_k».proof.Proof.Spec
public import proofs.«01_k».proof.Proof.Sorted
public import proofs.«01_k».proof.Proof.Gen.ReferenceIdeal.Read

@[expose] public section

noncomputable section

namespace Cert.ReferenceIdeal.Merged

open Cert.ReferenceIdeal Cert.ReferenceIdeal.Gen Cert.ReferenceIdeal.Read Idealize.ShloMosaic Idealize.ShloMosaic.TcCoe
open Idealize.ShloMosaic.ValueIdx Cert.Merge Finset

variable (x0 : (⟨S8x77x768, .f32⟩ : BufTy).Contents (Elt Ideal)) (x1 : (⟨S8x196x768, .f32⟩ : BufTy).Contents (Elt Ideal))
  (x2 x3 : (⟨S12x768x64, .f32⟩ : BufTy).Contents (Elt Ideal))

/-- The queries, images and matrices the arguments hold. -/
abbrev queryOf (b : Fin 8) : Patch := fun e => x0 (ix3 b (0 : Fin 77) e)
/-- The patches of batch `b`. -/
abbrev imageOf (b : Fin 8) : Fin 196 → Patch := fun n e => x1 (ix3 b n e)
/-- The matrix of head `h`. -/
abbrev matrixOf (w : (⟨S12x768x64, .f32⟩ : BufTy).Contents (Elt Ideal)) (h : Fin 12) : Fin 768 → Fin 64 → EReal := fun e d => w (ix3 h e d)

/-- The batch row `j` of the repeated images is, and the head row `j` of the repeated matrices is. -/
def batchAt (j : Fin 96) : Fin 8 := ⟨j.val % 8, Nat.mod_lt _ (by decide)⟩
/-- The head of row `j` of the scores. -/
def headAt (j : Fin 96) : Fin 12 := ⟨j.val % 12, Nat.mod_lt _ (by decide)⟩

/-- The repeated images, row by row. -/
theorem images_apply (j : Fin 96) (n : Fin 196) (e : Fin 768) : val_main_v5 (F := Ideal) x1 (ix3 j n e) = x1 (ix3 (batchAt j) n e) := by
  rw [val_main_v5_apply, val_main_v4_apply, val_main_v3_apply]
  have hj := j.isLt; have hn := n.isLt; have he := e.isLt
  refine congrArg x1 (idx3 ?_ ?_ ?_)
  · show ((j.val * 196 + n.val) * 768 + e.val) / 150528 % 8 = j.val % 8; omega
  · show ((j.val * 196 + n.val) * 768 + e.val) / 768 % 196 = n.val; omega
  · show ((j.val * 196 + n.val) * 768 + e.val) % 768 = e.val; omega

/-- The repeated queries, row by row. -/
theorem texts_apply (j : Fin 96) (e : Fin 768) : val_main_v12 (F := Ideal) x0 (ix3 j (0 : Fin 1) e) = x0 (ix3 (batchAt j) (0 : Fin 77) e) := by
  rw [val_main_v12_apply, val_main_v11_apply, val_main_v10_apply, val_main_v2_apply, val_main_v1_apply, val_main_v0_apply]
  have hj := j.isLt; have he := e.isLt
  refine congrArg x0 (idx3 ?_ ?_ ?_)
  · show (((j.val * 1 + 0) * 768 + e.val) / 768 % 8 * 768 + ((j.val * 1 + 0) * 768 + e.val) % 768) / 768 = j.val % 8; omega
  · rfl
  · show (((j.val * 1 + 0) * 768 + e.val) / 768 % 8 * 768 + ((j.val * 1 + 0) * 768 + e.val) % 768) % 768 = e.val; omega

/-- The repeated key matrices, row by row. -/
theorem keyMatrices_apply (j : Fin 96) (e : Fin 768) (d : Fin 64) : val_main_v8 (F := Ideal) x2 (ix3 j e d) = x2 (ix3 (headAt j) e d) := by
  rw [val_main_v8_apply, val_main_v7_apply, val_main_v6_apply]
  have hj := j.isLt; have he := e.isLt; have hd := d.isLt
  refine congrArg x2 (idx3 ?_ ?_ ?_)
  · show ((j.val * 768 + e.val) * 64 + d.val) / 49152 % 12 = j.val % 12; omega
  · show ((j.val * 768 + e.val) * 64 + d.val) / 64 % 768 = e.val; omega
  · show ((j.val * 768 + e.val) * 64 + d.val) % 64 = d.val; omega

/-- The query matrices are repeated as the key matrices are. -/
theorem queryMatrices_apply (j : Fin 96) (e : Fin 768) (d : Fin 64) : val_main_v15 (F := Ideal) x3 (ix3 j e d) = x3 (ix3 (headAt j) e d) :=
  keyMatrices_apply x3 j e d

/-- The scaled products. -/
theorem logits_apply (j : Fin 96) (n : Fin 196) :
    val_main_v20 (F := Ideal) x0 x1 x2 x3 (ix3 j (0 : Fin 1) n)
      = scaled (queryOf x0 (batchAt j)) (imageOf x1 (batchAt j) n) (matrixOf x3 (headAt j)) (matrixOf x2 (headAt j)) := by
  rw [val_main_v20_apply, val_main_v19_apply, val_main_v18_apply]
  refine congrArg₂ Ideal.div (Finset.sum_congr rfl fun d _ => congrArg₂ (· * ·) ?_ ?_) rfl
  · rw [val_main_v16_apply]
    refine Finset.sum_congr rfl fun e _ => congrArg₂ (· * ·) ?_ ?_
    · exact (congrArg _ (idx3 rfl rfl rfl)).trans (texts_apply x0 j e)
    · exact (congrArg _ (idx3 rfl rfl rfl)).trans (queryMatrices_apply x3 j e d)
  · rw [val_main_v17_apply, val_main_v9_apply]
    refine Finset.sum_congr rfl fun e _ => congrArg₂ (· * ·) ?_ ?_
    · exact (congrArg _ (idx3 rfl rfl rfl)).trans (images_apply x1 j n e)
    · exact (congrArg _ (idx3 rfl rfl rfl)).trans (keyMatrices_apply x2 j e d)

/-- No patch is masked. -/
theorem unmasked (i : S96x1x196.Idx) : val_main_v35 (F := Ideal) x0 x1 x2 x3 i = val_main_v20 (F := Ideal) x0 x1 x2 x3 i := by
  have h (k : S8x196.Idx) : val_main_v28 (F := Ideal) k = (1 : EReal) := by
    rw [val_main_v28_apply, val_main_v27_apply, val_main_v25_apply, val_main_v23_apply, val_main_v22_apply, val_main_v26_apply,
      val_main_v24_apply, val_main_v21_apply, val_main_c_apply]
    have hk : (k 1).val < 196 := (k 1).isLt
    refine (congrArg (fun z => (FloatOps.uitofp .f32 z : Ideal .f32)) (cmpi_slt_iota (k 1).val 196 (by omega) (by omega))).trans ?_
    rw [unsigned_bit, if_pos hk]
  rw [val_main_v35_apply, val_main_v34_apply, val_main_v32_apply, val_main_v31_apply, val_main_v30_apply, val_main_v29_apply, h,
    val_main_v33_apply, val_main_cst_0_apply]
  show Scalar.select (FloatOps.cmpf (F := Ideal) (φ := .f32) .oeq 1 (Ideal.ofBits .f32 0x00000000#32)) _ _ = _
  rw [cmpf_oeq, bits_zero, select_bit, if_neg one_ne_zero]

/-- The greatest of a row. -/
theorem top_apply (j : Fin 96) :
    val_main_v36 (F := Ideal) x0 x1 x2 x3 (ix2 j (0 : Fin 1)) = univ.sup fun n : Fin 196 => val_main_v35 (F := Ideal) x0 x1 x2 x3 (ix3 j (0 : Fin 1) n) := by
  refine (hostMax_apply (val_main_v35 (F := Ideal) x0 x1 x2 x3) reducesTo_S96x1x196_S96x1_d2 (by decide) h_S_ (ix2 j (0 : Fin 1))).trans ?_
  exact congrArg univ.sup (funext fun n => congrArg _ (idx3 rfl rfl rfl))

/-- The exponentials of a row of scores. -/
theorem exps_apply (j : Fin 96) (n : Fin 196) :
    val_main_v42 (F := Ideal) x0 x1 x2 x3 (ix3 j (0 : Fin 1) n)
      = Ideal.exp (val_main_v20 (F := Ideal) x0 x1 x2 x3 (ix3 j (0 : Fin 1) n) - univ.sup fun m : Fin 196 => val_main_v20 (F := Ideal) x0 x1 x2 x3 (ix3 j (0 : Fin 1) m)) := by
  rw [val_main_v42_apply, val_main_v41_apply, val_main_v40_apply, val_main_v39_apply, val_main_v38_apply, val_main_v37_apply, val_main_cst_3_apply]
  refine congrArg Ideal.exp (congrArg₂ (· - ·) (unmasked x0 x1 x2 x3 _) ?_)
  show max (Ideal.ofBits .f32 0xFF800000#32) (val_main_v36 (F := Ideal) x0 x1 x2 x3 _) = _
  rw [bits_bot, max_eq_right bot_le]
  refine Eq.trans (congrArg (val_main_v36 (F := Ideal) x0 x1 x2 x3) (?_ : _ = ix2 j (0 : Fin 1))) ((top_apply x0 x1 x2 x3 j).trans ?_)
  · exact idx2 rfl rfl
  exact congrArg univ.sup (funext fun m => unmasked x0 x1 x2 x3 _)

/-- A row of scores is the softmax of its scaled products. -/
theorem softmax_apply (j : Fin 96) (n : Fin 196) :
    val_main_v46 (F := Ideal) x0 x1 x2 x3 (ix3 j (0 : Fin 1) n)
      = headScore (queryOf x0 (batchAt j)) (imageOf x1 (batchAt j)) (matrixOf x3 (headAt j)) (matrixOf x2 (headAt j)) n := by
  have e (m : Fin 196) := (exps_apply x0 x1 x2 x3 j m)
  simp only [logits_apply] at e
  rw [val_main_v46_apply, val_main_v45_apply, val_main_v44_apply, val_main_v43_apply, val_main_cst_4_apply]
  refine congrArg₂ Ideal.div (e n) ?_
  refine (congrArg (· + _) bits_zero).trans ((zero_add _).trans ?_)
  refine Finset.sum_congr rfl fun m _ => Eq.trans (congrArg (val_main_v42 (F := Ideal) x0 x1 x2 x3) (?_ : _ = ix3 j (0 : Fin 1) m)) (e m)
  exact idx3 rfl rfl rfl

/-- Head `h`'s row of batch `b`. -/
theorem row_apply (b : Fin 8) (h : Fin 12) (n : Fin 196) :
    val_main_v46 (F := Ideal) x0 x1 x2 x3 (ix3 (⟨b.val * 12 + h.val, by omega⟩ : Fin 96) (0 : Fin 1) n)
      = headScore (queryOf x0 (batchOf (parity b) h)) (imageOf x1 (batchOf (parity b) h)) (matrixOf x3 h) (matrixOf x2 h) n := by
  have hb := b.isLt; have hh := h.isLt
  rw [softmax_apply]
  have e1 : batchAt ⟨b.val * 12 + h.val, by omega⟩ = batchOf (parity b) h := Fin.ext (by
    show (b.val * 12 + h.val) % 8 = (4 * (b.val % 2) + h.val) % 8; omega)
  have e2 : headAt ⟨b.val * 12 + h.val, by omega⟩ = h := Fin.ext (by
    show (b.val * 12 + h.val) % 12 = h.val; omega)
  rw [e1, e2]

/-- The scores of a batch. -/
theorem scores_apply (b : Fin 8) (n : Fin 196) :
    val_main_v51 (F := Ideal) x0 x1 x2 x3 (ix2 b n) = meanScore (queryOf x0) (imageOf x1) (matrixOf x3) (matrixOf x2) (parity b) n := by
  have hb := b.isLt; have hn := n.isLt
  rw [val_main_v51_apply, val_main_v50_apply, val_main_v49_apply, val_main_cst_6_apply, val_main_v48_apply, val_main_cst_5_apply]
  refine congrArg₂ Ideal.div ?_ rfl
  refine (congrArg (· + _) bits_zero).trans ((zero_add _).trans ?_)
  refine Finset.sum_congr rfl fun h _ => ?_
  have hh := h.isLt
  rw [val_main_v47_apply]
  refine Eq.trans (congrArg (val_main_v46 (F := Ideal) x0 x1 x2 x3) (?_ : _ = ix3 (⟨b.val * 12 + h.val, by omega⟩ : Fin 96) (0 : Fin 1) n))
    (row_apply x0 x1 x2 x3 b h n)
  refine idx3 ?_ rfl ?_
  · show ((((b.val * 196 + n.val) / 196 * 12 + h.val) * 1 + 0) * 196 + (b.val * 196 + n.val) % 196) / 196 = b.val * 12 + h.val; omega
  · show ((((b.val * 196 + n.val) / 196 * 12 + h.val) * 1 + 0) * 196 + (b.val * 196 + n.val) % 196) % 196 = n.val; omega

end Cert.ReferenceIdeal.Merged

end
-- ==== Proof.RefMerge.lean ====
/-
  The reference's merge at exact arithmetic: the strong patches of a batch mixed with the pools of its weak ones.
-/
module

public import proofs.«01_k».proof.Proof.RefScores

@[expose] public section

noncomputable section

namespace Cert.ReferenceIdeal.Merged

open Cert.ReferenceIdeal Cert.ReferenceIdeal.Gen Cert.ReferenceIdeal.Read Idealize.ShloMosaic Idealize.ShloMosaic.TcCoe
open Idealize.ShloMosaic.ValueIdx Cert.Merge Finset

variable (x0 : (⟨S8x77x768, .f32⟩ : BufTy).Contents (Elt Ideal)) (x1 : (⟨S8x196x768, .f32⟩ : BufTy).Contents (Elt Ideal))
  (x2 x3 : (⟨S12x768x64, .f32⟩ : BufTy).Contents (Elt Ideal)) (b : Fin 8)

attribute [local irreducible] val_main_v51 val_main_v52 val_main_indices val_main_indices_8 val_main_v54 val_main_v56 val_main_v61
  val_main_v66 val_main_v68 val_main_v69 val_main_indices_13 val_main_v70 val_main_v74 val_main_v75 val_main_v81 val_main_v82 val_main_v89
  val_main_v95 val_main_v96 val_main_v99

/-- The scores of a batch. -/
def scoresOf : Fin 196 → EReal := fun n => val_main_v51 (F := Ideal) x0 x1 x2 x3 (ix2 b n)

/-- The strong patches. -/
def strongOf (k : Fin 137) : Patch := imageOf x1 b (strongPos (scoresOf x0 x1 x2 x3 b) k)

/-- The weak patches, lowest score first. -/
def weakOf (i : Fin 59) : Patch := imageOf x1 b (atRank (lower_strict (scoresOf x0 x1 x2 x3 b)) ⟨i.val, by omega⟩)

/-! ## The choice of patches -/

/-- A position in range is kept by the wrap of negative ones. -/
theorem kept (n : ℕ) (h : n < 196) (z : BitVec 32) :
    Scalar.select (IntOp.cmpi .slt (BitVec.ofNat 32 n) 0#32) z (BitVec.ofNat 32 n) = BitVec.ofNat 32 n := by
  refine (congrArg (fun c => Scalar.select c z (BitVec.ofNat 32 n)) (cmpi_slt_iota n 0 (by omega) (by omega))).trans ?_
  rw [select_bit, if_neg (Nat.not_lt_zero n)]

/-- The first gather takes the strong patches. -/
theorem strong_apply (k : Fin 137) (e : Fin 768) : val_main_v54 (F := Ideal) x0 x1 x2 x3 (ix3 b k e) = strongOf x0 x1 x2 x3 b k e := by
  unfold val_main_v54
  refine gather_rows_apply gather_S8x196x768_S8x137x1_S8x137x768_2_1_0_0_1_2_11768.wf x1 _ b k e (strongPos (scoresOf x0 x1 x2 x3 b) k) ?_
  have h : val_main_v53 (F := Ideal) x0 x1 x2 x3 (ix3 b k (0 : Fin 1)) = BitVec.ofNat 32 (strongPos (scoresOf x0 x1 x2 x3 b) k).val := by
    rw [val_main_v53_apply]
    refine at2 (val_main_indices (F := Ideal) x0 x1 x2 x3) (ix2 b k) ?_
    unfold val_main_indices
    exact (topK2_apply (by decide) (val_main_v51 (F := Ideal) x0 x1 x2 x3) sliceFits_S8x196_S8x137 b k)
  have hn := (strongPos (scoresOf x0 x1 x2 x3 b) k).isLt
  rw [val_main_call1_v4_apply, val_main_call1_v1_apply, val_main_call1_v0_apply, val_main_call1_c_apply, h, kept _ hn, toInt_iota _ (by omega)]

/-- The second gather takes the weak patches. -/
theorem weak_apply (i : Fin 59) (e : Fin 768) : val_main_v56 (F := Ideal) x0 x1 x2 x3 (ix3 b i e) = weakOf x0 x1 x2 x3 b i e := by
  unfold val_main_v56
  refine gather_rows_apply gather_S8x196x768_S8x59x1_S8x59x768_2_1_0_0_1_2_11768.wf x1 _ b i e
    (atRank (lower_strict (scoresOf x0 x1 x2 x3 b)) ⟨i.val, by omega⟩) ?_
  have h : val_main_v55 (F := Ideal) x0 x1 x2 x3 (ix3 b i (0 : Fin 1))
      = BitVec.ofNat 32 (atRank (lower_strict (scoresOf x0 x1 x2 x3 b)) ⟨i.val, by omega⟩).val := by
    rw [val_main_v55_apply, ← atRank_neg]
    refine at2 (val_main_indices_8 (F := Ideal) x0 x1 x2 x3) (ix2 b i) ?_
    unfold val_main_indices_8 val_main_v52
    exact topK2_apply (by decide) (Host.negf (val_main_v51 (F := Ideal) x0 x1 x2 x3)) sliceFits_S8x196_S8x59 b i
  have hn := (atRank (lower_strict (scoresOf x0 x1 x2 x3 b)) ⟨i.val, by omega⟩).isLt
  rw [val_main_call2_v4_apply, val_main_call2_v1_apply, val_main_call2_v0_apply, val_main_call2_c_apply, h, kept _ hn, toInt_iota _ (by omega)]

/-! ## The likenesses -/

/-- A weak patch divided by its length. -/
theorem weakUnit_apply (i : Fin 59) (e : Fin 768) :
    val_main_v61 (F := Ideal) x0 x1 x2 x3 (ix3 b i e) = Ideal.div (weakOf x0 x1 x2 x3 b i e) (len (weakOf x0 x1 x2 x3 b i)) := by
  rw [val_main_v61_apply, val_main_v60_apply, val_main_v59_apply, val_main_v58_apply, val_main_cst_9_apply, val_main_v57_apply,
    val_main_call3_v2_apply, val_main_call3_v1_apply, val_main_call3_cst_apply, weak_apply]
  refine congrArg (Ideal.div _) (congrArg (max · _) (congrArg Ideal.sqrt ?_))
  refine (congrArg (· + _) bits_zero).trans ((zero_add _).trans ?_)
  refine Finset.sum_congr rfl fun h _ => ?_
  rw [val_main_call3_v0_apply]
  have e := at3 (val_main_v56 (F := Ideal) x0 x1 x2 x3) (i := idx_main_call3_v1 (idx_main_call3_v2 (idx_main_v60 (ix3 b i e))) h) (ix3 b i h)
    (weak_apply x0 x1 x2 x3 b i h)
  rw [e]
  rfl

/-- A strong patch divided by its length. -/
theorem strongUnit_apply (k : Fin 137) (e : Fin 768) :
    val_main_v66 (F := Ideal) x0 x1 x2 x3 (ix3 b k e) = Ideal.div (strongOf x0 x1 x2 x3 b k e) (len (strongOf x0 x1 x2 x3 b k)) := by
  rw [val_main_v66_apply, val_main_v65_apply, val_main_v64_apply, val_main_v63_apply, val_main_cst_10_apply, val_main_v62_apply,
    val_main_call4_v2_apply, val_main_call4_v1_apply, val_main_call4_cst_apply, strong_apply]
  refine congrArg (Ideal.div _) (congrArg (max · _) (congrArg Ideal.sqrt ?_))
  refine (congrArg (· + _) bits_zero).trans ((zero_add _).trans ?_)
  refine Finset.sum_congr rfl fun h _ => ?_
  rw [val_main_call4_v0_apply]
  have e := at3 (val_main_v54 (F := Ideal) x0 x1 x2 x3) (i := idx_main_call4_v1 (idx_main_call4_v2 (idx_main_v65 (ix3 b k e))) h) (ix3 b k h)
    (strong_apply x0 x1 x2 x3 b k h)
  rw [e]
  rfl

/-- An entry of the similarities is the likeness of its two patches. -/
theorem likes_apply (i : Fin 59) (k : Fin 137) :
    val_main_v68 (F := Ideal) x0 x1 x2 x3 (ix3 b i k) = likes (strongOf x0 x1 x2 x3 b) (weakOf x0 x1 x2 x3 b i) k := by
  rw [val_main_v68_apply]
  unfold likes alike
  refine Finset.sum_congr rfl fun h _ => congrArg₂ (fun u v : EReal => u * v) ?_ ?_
  · exact at3 (val_main_v61 (F := Ideal) x0 x1 x2 x3) (ix3 b i h) (weakUnit_apply x0 x1 x2 x3 b i h)
  · rw [val_main_v67_apply]
    exact at3 (val_main_v66 (F := Ideal) x0 x1 x2 x3) (ix3 b k h) (strongUnit_apply x0 x1 x2 x3 b k h)

/-- The greatest likeness of a weak patch. -/
theorem best_apply (i : Fin 59) :
    val_main_v69 (F := Ideal) x0 x1 x2 x3 (ix2 b i) = univ.sup (likes (strongOf x0 x1 x2 x3 b) (weakOf x0 x1 x2 x3 b i)) := by
  unfold val_main_v69
  refine (hostMax_apply (val_main_v68 (F := Ideal) x0 x1 x2 x3) reducesTo_S8x59x137_S8x59_d2 (by decide) h_S_ (ix2 b i)).trans ?_
  exact congrArg univ.sup (funext fun k =>
    at3 (val_main_v68 (F := Ideal) x0 x1 x2 x3) (ix3 b i k) (likes_apply x0 x1 x2 x3 b i k))

/-- The weight of a weak patch. -/
theorem gain_apply (i : Fin 59) :
    val_main_v74 (F := Ideal) x0 x1 x2 x3 (ix2 b i) = gain (strongOf x0 x1 x2 x3 b) (weakOf x0 x1 x2 x3 b i) := by
  rw [val_main_v74_apply, val_main_v73_apply, val_main_v72_apply, val_main_cst_14_apply, val_main_v71_apply, best_apply]
  rfl

/-- The strong patch a weak one goes to. -/
theorem goal_apply (i : Fin 59) :
    val_main_v70 (F := Ideal) x0 x1 x2 x3 (ix2 b i) = BitVec.ofNat 32 (goal (strongOf x0 x1 x2 x3 b) (weakOf x0 x1 x2 x3 b i)) := by
  have hb := b.isLt; have hi := i.isLt
  rw [val_main_v70_apply]
  refine at3 (val_main_indices_13 (F := Ideal) x0 x1 x2 x3) (ix3 b i (0 : Fin 1)) ?_ ?_ ?_ rfl
  · unfold val_main_indices_13
    refine (topK3_apply (by decide) (val_main_v68 (F := Ideal) x0 x1 x2 x3) sliceFits_S8x59x137_S8x59x1 b i 0).trans ?_
    have e : (fun k => val_main_v68 (F := Ideal) x0 x1 x2 x3 (ix3 b i k)) = likes (strongOf x0 x1 x2 x3 b) (weakOf x0 x1 x2 x3 b i) :=
      funext fun k => likes_apply x0 x1 x2 x3 b i k
    rw [e]
    exact congrArg (fun z : Fin (136 + 1) => BitVec.ofNat 32 z.val) (atRank_first _ _ rfl)
  · show (b.val * 59 + i.val) / 59 = b.val; omega
  · show (b.val * 59 + i.val) / 1 % 59 = i.val; omega

/-- One at the strong patch a weak one goes to, zero elsewhere. -/
theorem hot_apply (i : Fin 59) (k : Fin 137) :
    val_main_v75 (F := Ideal) x0 x1 x2 x3 (ix3 b i k)
      = if goal (strongOf x0 x1 x2 x3 b) (weakOf x0 x1 x2 x3 b i) = k.val then (1 : EReal) else 0 := by
  have hg : goal (strongOf x0 x1 x2 x3 b) (weakOf x0 x1 x2 x3 b i) < 137 := (first _).isLt
  have hk := k.isLt
  rw [val_main_v75_apply, val_main_call5_v4_apply, val_main_call5_v2_apply, val_main_call5_v0_apply, val_main_call5_v3_apply, val_main_call5_v1_apply]
  have e := at2 (val_main_v70 (F := Ideal) x0 x1 x2 x3) (i := idx_main_call5_v0 (idx_main_call5_v2 (ix3 b i k))) (ix2 b i)
    (goal_apply x0 x1 x2 x3 b i)
  rw [e]
  refine (congrArg (fun z => (FloatOps.uitofp .f32 z : Ideal .f32)) (cmpi_eq_iota _ k.val (by omega) (by omega))).trans ?_
  rw [unsigned_bit]

/-! ## The pools -/

/-- A choice by whether a one-hot entry is zero. -/
theorem hot_zero (p : Prop) [Decidable p] {α : Type} (u v : α) :
    Scalar.select (FloatOps.cmpf (F := Ideal) (φ := .f32) .oeq (if p then (1 : EReal) else 0) (Ideal.ofBits .f32 0x00000000#32)) u v
      = if p then v else u := by
  rw [cmpf_oeq, bits_zero, select_bit]
  by_cases h : p
  · rw [if_pos h, if_pos h, if_neg one_ne_zero]
  · rw [if_neg h, if_neg h, if_pos rfl]

/-- The pool before its greatest is taken: a weak patch where it is assigned, else the sentinel. -/
theorem spread_apply (i : Fin 59) (k : Fin 137) (e : Fin 768) :
    val_main_v81 (F := Ideal) x0 x1 x2 x3 (ix4 b i k e)
      = if goal (strongOf x0 x1 x2 x3 b) (weakOf x0 x1 x2 x3 b i) = k.val then weakOf x0 x1 x2 x3 b i e
        else Ideal.ofBits .f32 0xC61C4000#32 := by
  rw [val_main_v81_apply, val_main_call6_v1_apply, val_main_v78_apply, val_main_v76_apply, val_main_v77_apply, val_main_cst_15_apply,
    val_main_v80_apply, val_main_v79_apply, val_main_call6_v2_apply, val_main_call6_v0_apply, val_main_cst_16_apply]
  have e1 := at3 (val_main_v75 (F := Ideal) x0 x1 x2 x3) (i := idx_main_v76 (idx_main_call6_v1 (ix4 b i k e))) (ix3 b i k)
    (hot_apply x0 x1 x2 x3 b i k)
  have e2 := at3 (val_main_v56 (F := Ideal) x0 x1 x2 x3) (i := idx_main_v79 (idx_main_v80 (ix4 b i k e))) (ix3 b i e)
    (weak_apply x0 x1 x2 x3 b i e)
  rw [e1, e2]
  exact hot_zero ..

/-- The greatest over the weak patches of the entries before. -/
theorem greatest_apply (k : Fin 137) (e : Fin 768) :
    val_main_v82 (F := Ideal) x0 x1 x2 x3 (ix3 b k e)
      = univ.sup fun i : Fin 59 => if goal (strongOf x0 x1 x2 x3 b) (weakOf x0 x1 x2 x3 b i) = k.val then weakOf x0 x1 x2 x3 b i e
        else Ideal.ofBits .f32 0xC61C4000#32 := by
  unfold val_main_v82
  refine (hostMax_apply (val_main_v81 (F := Ideal) x0 x1 x2 x3) reducesTo_S8x59x137x768_S8x137x768_d1 (by decide) h_S_ (ix3 b k e)).trans ?_
  exact congrArg univ.sup (funext fun i =>
    at4 (val_main_v81 (F := Ideal) x0 x1 x2 x3) (ix4 b i k e) (spread_apply x0 x1 x2 x3 b i k e))

/-- The pool of the weak patches' values. -/
theorem values_apply (k : Fin 137) (e : Fin 768) (hlow : ∀ n, Ideal.ofBits .f32 0xC61C4000#32 ≤ imageOf x1 b n e) :
    val_main_v89 (F := Ideal) x0 x1 x2 x3 (ix3 b k e)
      = pool (fun i => goal (strongOf x0 x1 x2 x3 b) (weakOf x0 x1 x2 x3 b i)) (fun i => weakOf x0 x1 x2 x3 b i e) k.val := by
  classical
  rw [val_main_v89_apply, val_main_call7_v1_apply, val_main_v88_apply, val_main_v87_apply, val_main_v86_apply, val_main_v84_apply,
    val_main_v83_apply, val_main_v85_apply, val_main_cst_19_apply, val_main_cst_18_apply, val_main_call7_v2_apply, val_main_call7_v0_apply,
    val_main_cst_20_apply, greatest_apply]
  refine Eq.trans ?_ (pool_values _ _ k.val (Ideal.ofBits .f32 0xC61C4000#32) fun i => hlow _)
  have e (i : Fin 59) := at3 (val_main_v75 (F := Ideal) x0 x1 x2 x3)
    (i := idx_main_v83 (idx_main_v84 (idx_main_v87 (idx_main_call7_v1 (ix3 b k e)))) i) (ix3 b i k) (hot_apply x0 x1 x2 x3 b i k)
  simp only [e]
  show Scalar.select (~~~(FloatOps.cmpf (F := Ideal) (φ := .f32) .ogt (Ideal.ofBits .f32 0x00000000#32 + _) (Ideal.ofBits .f32 0x00000000#32)))
    (Ideal.ofBits .f32 0x00000000#32) _ = _
  rw [cmpf_ogt, not_bit, bits_zero, zero_add, select_bit]
  congr

/-- The weights where they are assigned, else the sentinel. -/
theorem weighted_apply (i : Fin 59) (k : Fin 137) :
    val_main_v95 (F := Ideal) x0 x1 x2 x3 (ix3 b i k)
      = if goal (strongOf x0 x1 x2 x3 b) (weakOf x0 x1 x2 x3 b i) = k.val then gain (strongOf x0 x1 x2 x3 b) (weakOf x0 x1 x2 x3 b i)
        else Ideal.ofBits .f32 0xC61C4000#32 := by
  rw [val_main_v95_apply, val_main_v91_apply, val_main_v90_apply, val_main_cst_21_apply, val_main_v94_apply, val_main_v93_apply,
    val_main_v92_apply, val_main_call8_v1_apply, val_main_call8_v0_apply, val_main_cst_22_apply, hot_apply]
  have e := at2 (val_main_v74 (F := Ideal) x0 x1 x2 x3) (i := idx_main_v92 (idx_main_v93 (ix3 b i k))) (ix2 b i)
    (gain_apply x0 x1 x2 x3 b i)
  rw [e]
  refine (hot_zero ..).trans ?_
  by_cases h : goal (strongOf x0 x1 x2 x3 b) (weakOf x0 x1 x2 x3 b i) = k.val
  · rw [if_pos h, if_pos h, if_pos h]; exact mul_one _
  · rw [if_neg h, if_neg h]; rfl

/-- The pool of the weak patches' weights. -/
theorem weights_apply (k : Fin 137) :
    val_main_v99 (F := Ideal) x0 x1 x2 x3 (ix2 b k)
      = pool (fun i => goal (strongOf x0 x1 x2 x3 b) (weakOf x0 x1 x2 x3 b i))
          (fun i => gain (strongOf x0 x1 x2 x3 b) (weakOf x0 x1 x2 x3 b i)) k.val := by
  classical
  have e : val_main_v96 (F := Ideal) x0 x1 x2 x3 (ix2 b k)
      = univ.sup fun i : Fin 59 => if goal (strongOf x0 x1 x2 x3 b) (weakOf x0 x1 x2 x3 b i) = k.val
          then gain (strongOf x0 x1 x2 x3 b) (weakOf x0 x1 x2 x3 b i) else Ideal.ofBits .f32 0xC61C4000#32 := by
    unfold val_main_v96
    refine (hostMax_apply (val_main_v95 (F := Ideal) x0 x1 x2 x3) reducesTo_S8x59x137_S8x137_d1 (by decide) h_S_ (ix2 b k)).trans ?_
    exact congrArg univ.sup (funext fun i =>
      at3 (val_main_v95 (F := Ideal) x0 x1 x2 x3) (ix3 b i k) (weighted_apply x0 x1 x2 x3 b i k))
  rw [val_main_v99_apply, val_main_v98_apply, val_main_v97_apply, val_main_cst_24_apply, val_main_call9_v1_apply, val_main_call9_v0_apply,
    val_main_cst_25_apply, e]
  refine Eq.trans ?_ (pool_weights _ (fun i => gain (strongOf x0 x1 x2 x3 b) (weakOf x0 x1 x2 x3 b i)) k.val (Ideal.ofBits .f32 0xC61C4000#32) fun i => low_lt_weight _)
  show Scalar.select (FloatOps.cmpf (F := Ideal) (φ := .f32) .oeq _ (Ideal.ofBits .f32 0xC61C4000#32)) (Ideal.ofBits .f32 0x00000000#32) _ = _
  rw [cmpf_oeq, bits_zero, select_bit]

/-! ## The mixture -/

/-- The reference's result, by the order of its own scores. -/
theorem mixed_apply (k : Fin 137) (e : Fin 768) (hlow : ∀ n, Ideal.ofBits .f32 0xC61C4000#32 ≤ imageOf x1 b n e) :
    val_main_v107 (F := Ideal) x0 x1 x2 x3 (ix3 b k e) = mixed (strongOf x0 x1 x2 x3 b) (weakOf x0 x1 x2 x3 b) k e := by
  rw [val_main_v107_apply, val_main_v104_apply, val_main_v103_apply, val_main_v102_apply, val_main_v101_apply, val_main_cst_26_apply,
    val_main_v106_apply, val_main_v105_apply, val_main_v100_apply, strong_apply, values_apply x0 x1 x2 x3 b k e hlow]
  have e1 := at2 (val_main_v99 (F := Ideal) x0 x1 x2 x3) (i := idx_main_v100 (idx_main_v103 (ix3 b k e))) (ix2 b k)
    (weights_apply x0 x1 x2 x3 b k)
  rw [e1]
  show (Ideal.ofBits .f32 0x3F800000#32 - _) * _ + _ = _
  rw [bits_one]
  rfl

/-- The reference's result, when no tie crosses the cut and no value lies below the pools' low value. -/
theorem result_apply (k : Fin 137) (e : Fin 768) (hlow : ∀ n, Ideal.ofBits .f32 0xC61C4000#32 ≤ imageOf x1 b n e)
    (sep : Separated (meanScore (queryOf x0) (imageOf x1) (matrixOf x3) (matrixOf x2) (parity b)) 137) :
    val_main_v107 (F := Ideal) x0 x1 x2 x3 (ix3 b k e)
      = result (queryOf x0) (imageOf x1) (matrixOf x3) (matrixOf x2) b k e := by
  have h : scoresOf x0 x1 x2 x3 b = meanScore (queryOf x0) (imageOf x1) (matrixOf x3) (matrixOf x2) (parity b) :=
    funext fun n => scores_apply x0 x1 x2 x3 b n
  rw [mixed_apply x0 x1 x2 x3 b k e hlow]
  have m : mixed (strongOf x0 x1 x2 x3 b) (weakOf x0 x1 x2 x3 b) = merged (scoresOf x0 x1 x2 x3 b) (imageOf x1 b) :=
    mixed_lower (scoresOf x0 x1 x2 x3 b) (imageOf x1 b) (h ▸ sep)
  rw [m, h]
  rfl

end Cert.ReferenceIdeal.Merged

end
-- ==== Proof.Separated.lean ====
/-
  What the precondition says at exact arithmetic: no tie of scores crosses the cut, and no image value lies below the
  low value of the pools.
-/
module

public import proofs.«01_k».proof.Proof.RefScores
public import proofs.«01_k».proof.Proof.Gen.Pre_separated

@[expose] public section

noncomputable section

namespace Cert.Pre_separated.Reading

open Cert.Pre_separated Cert.Pre_separated.Gen Idealize.ShloMosaic Idealize.ShloMosaic.ValueIdx Cert.Merge Finset
open Cert.ReferenceIdeal.Read Cert.ReferenceIdeal.Merged

/-! ## The scores -/

/-- Every twelfth row of the heads' scores, from row `h`. -/
def every (y : FVec Ideal S96x1x196 .f32) (h : ℕ) (hs : S96x1x196.SlicesBy (![h, 0, 0] : Fin 3 → Nat) ![12, 1, 1] S8x1x196) :
    FVec Ideal S8x196 .f32 :=
  shapeCast S8x196 (Host.slice S8x1x196 ![h, 0, 0] ![12, 1, 1] y hs) shapeCasts_S8x1x196_S8x196

/-- Every twelfth row, from row `h` on. -/
theorem every_apply (y : FVec Ideal S96x1x196 .f32) (h : ℕ) (hs : S96x1x196.SlicesBy (![h, 0, 0] : Fin 3 → Nat) ![12, 1, 1] S8x1x196)
    (b : Fin 8) (n : Fin 196) (hh : b.val * 12 + h < 96) :
    every y h hs (ix2 b n) = y (ix3 (⟨b.val * 12 + h, hh⟩ : Fin 96) (0 : Fin 1) n) := by
  refine (shapeCast_apply _ shapeCasts_S8x1x196_S8x196 (ix2 b n) (ix3 b (0 : Fin 1) n) ?_).trans ?_
  · rw [Shape.rowMajor_val_three, Shape.rowMajor_val_two]
    show (b.val * 1 + 0) * 196 + n.val = b.val * 196 + n.val; omega
  · refine congrArg y (idx3 ?_ ?_ ?_)
    · show h + 12 * b.val = b.val * 12 + h; omega
    · rfl
    · show 0 + 1 * n.val = n.val; omega

/-- The heads' mean. -/
def scores (y : FVec Ideal S96x1x196 .f32) : FVec Ideal S8x196 .f32 :=
  Host.divf (addf (addf (addf (addf (addf (addf (addf (addf (addf (addf (addf (every y 0 slicesBy_S96x1x196_S8x1x196_0s12_0s1_0s1)
      (every y 1 slicesBy_S96x1x196_S8x1x196_1s12_0s1_0s1))
      (every y 2 slicesBy_S96x1x196_S8x1x196_2s12_0s1_0s1))
      (every y 3 slicesBy_S96x1x196_S8x1x196_3s12_0s1_0s1))
      (every y 4 slicesBy_S96x1x196_S8x1x196_4s12_0s1_0s1))
      (every y 5 slicesBy_S96x1x196_S8x1x196_5s12_0s1_0s1))
      (every y 6 slicesBy_S96x1x196_S8x1x196_6s12_0s1_0s1))
      (every y 7 slicesBy_S96x1x196_S8x1x196_7s12_0s1_0s1))
      (every y 8 slicesBy_S96x1x196_S8x1x196_8s12_0s1_0s1))
      (every y 9 slicesBy_S96x1x196_S8x1x196_9s12_0s1_0s1))
      (every y 10 slicesBy_S96x1x196_S8x1x196_10s12_0s1_0s1))
      (every y 11 slicesBy_S96x1x196_S8x1x196_11s12_0s1_0s1))
    (broadcastInDim S8x196 ![] bcast_S_S8x196 (constant S_ .f32 0x41400000#32))

/-- The scores are the mean over the heads. -/
theorem heads_apply (y : FVec Ideal S96x1x196 .f32) (b : Fin 8) (n : Fin 196) :
    scores y (ix2 b n) = Ideal.div (∑ h : Fin 12, y (ix3 (⟨b.val * 12 + h.val, by omega⟩ : Fin 96) (0 : Fin 1) n)) (Ideal.ofBits .f32 0x41400000#32) := by
  have e (h : Fin 12) (hs) : every y h.val hs (ix2 b n) = y (ix3 (⟨b.val * 12 + h.val, by omega⟩ : Fin 96) (0 : Fin 1) n) :=
    every_apply y h.val hs b n (by omega)
  have add {u u' v v' : EReal} (hu : u = u') (hv : v = v') : u + v = u' + v' := congrArg₂ (· + ·) hu hv
  rw [sum12]
  exact congrArg₂ Ideal.div
    (add (add (add (add (add (add (add (add (add (add (add (e 0 _) (e 1 _)) (e 2 _)) (e 3 _)) (e 4 _)) (e 5 _)) (e 6 _)) (e 7 _)) (e 8 _)) (e 9 _)) (e 10 _)) (e 11 _)) rfl

/-! ## The counts -/

variable (s : FVec Ideal S8x196 .f32) (x1 : FVec Ideal S8x196x768 .f32)

/-- The scores along the last axis, and along the middle one. -/
def across : FVec Ideal S8x196x196 .f32 :=
  broadcastInDim S8x196x196 ![0, 1, 2] bcast_S8x1x196_S8x196x196_0_1_2 (broadcastInDim S8x1x196 ![0, 2] bcast_S8x196_S8x1x196_0_2 s)
/-- The scores down the columns of a square. -/
def down : FVec Ideal S8x196x196 .f32 :=
  broadcastInDim S8x196x196 ![0, 1, 2] bcast_S8x196x1_S8x196x196_0_1_2 (broadcastInDim S8x196x1 ![0, 1] bcast_S8x196_S8x196x1_0_1 s)

/-- The scores along the rows, entry by entry. -/
theorem across_apply (b : Fin 8) (n m : Fin 196) : across s (ix3 b n m) = s (ix2 b m) := by
  refine (broadcastInDim_apply _ bcast_S8x1x196_S8x196x196_0_1_2 _ (ix3 b n m) (ix3 b (0 : Fin 1) m) fun a => ?_).trans
    (broadcastInDim_apply _ bcast_S8x196_S8x1x196_0_2 s (ix3 b (0 : Fin 1) m) (ix2 b m) fun a => ?_)
  · match a with | ⟨0, _⟩ => rfl | ⟨1, _⟩ => rfl | ⟨2, _⟩ => rfl
  · match a with | ⟨0, _⟩ => rfl | ⟨1, _⟩ => rfl

/-- The scores down the columns, entry by entry. -/
theorem down_apply (b : Fin 8) (n m : Fin 196) : down s (ix3 b n m) = s (ix2 b n) := by
  refine (broadcastInDim_apply _ bcast_S8x196x1_S8x196x196_0_1_2 _ (ix3 b n m) (ix3 b n (0 : Fin 1)) fun a => ?_).trans
    (broadcastInDim_apply _ bcast_S8x196_S8x196x1_0_1 s (ix3 b n (0 : Fin 1)) (ix2 b n) fun a => ?_)
  · match a with | ⟨0, _⟩ => rfl | ⟨1, _⟩ => rfl | ⟨2, _⟩ => rfl
  · match a with | ⟨0, _⟩ => rfl | ⟨1, _⟩ => rfl

/-- The sum of bits along the last axis. -/
def count (x : IVec S8x196x196 1) : FVec Ideal S8x196 .f32 :=
  Host.reduceAdd (uitofp (F := Ideal) .f32 x) (constant S_ .f32 0x00000000#32) reducesTo_S8x196x196_S8x196_d2 h_S_

/-- A sum of bits counts those that hold. -/
theorem count_apply (x : IVec S8x196x196 1) (b : Fin 8) (n : Fin 196) (p : Fin 196 → Prop) [DecidablePred p]
    (h : ∀ m, x (ix3 b n m) = bit (p m)) :
    count x (ix2 b n) = nr (univ.filter p).card := by
  simp only [count, Host.reduceAdd, Ideal.hostReduceAdd_def]
  rw [Ideal.hostReduceAdd_single reducesTo_S8x196x196_S8x196_d2 (by decide), ← sum_ite_nr]
  refine (congrArg (· + _) bits_zero).trans ((zero_add _).trans ?_)
  refine Finset.sum_congr rfl fun (m : Fin 196) _ => ?_
  refine at3 (uitofp (F := Ideal) .f32 x) (ix3 b n m) ?_
  exact (congrArg (fun z => (FloatOps.uitofp .f32 z : Ideal .f32)) (h m)).trans (unsigned_bit (p m))

/-- The precondition over given scores. -/
theorem counted (h : (fn_part4 (F := Ideal) x1 s (across s) (down s)).1 = fun _ => 1#1) (b : Fin 8) :
    Separated (fun n => s (ix2 b n)) 137 := by
  classical
  intro n
  have e := congrFun h (ix2 b n)
  replace e : IntOp.ori (FloatOps.cmpf (F := Ideal) (φ := .f32) .oge (count (cmpf .ogt (across s) (down s)) (ix2 b n)) (Ideal.ofBits .f32 0x43090000#32))
    (FloatOps.cmpf (F := Ideal) (φ := .f32) .ole (count (cmpf .oge (across s) (down s)) (ix2 b n)) (Ideal.ofBits .f32 0x43090000#32)) = 1#1 := e
  rw [cmpf_oge, cmpf_ole, ori_bit, bits_137,
    count_apply _ b n (fun m => s (ix2 b n) < s (ix2 b m)) fun m => by
      show FloatOps.cmpf (F := Ideal) (φ := .f32) .ogt (across s (ix3 b n m)) (down s (ix3 b n m)) = _
      rw [across_apply, down_apply, cmpf_ogt],
    count_apply _ b n (fun m => s (ix2 b n) ≤ s (ix2 b m)) fun m => by
      show FloatOps.cmpf (F := Ideal) (φ := .f32) .oge (across s (ix3 b n m)) (down s (ix3 b n m)) = _
      rw [across_apply, down_apply, cmpf_oge]] at e
  have := bit_one e
  rw [nr_le, nr_le] at this
  convert this using 3

/-- No image value lies below the low value. -/
theorem bounded (z : FVec Ideal S8x196 .f32) (u v : FVec Ideal S8x196x196 .f32) (h : (fn_part4 (F := Ideal) x1 z u v).2 = fun _ => 1#1)
    (i : S8x196x768.Idx) : Ideal.ofBits .f32 0xC61C4000#32 ≤ x1 i := by
  classical
  have e := congrFun h i
  replace e : FloatOps.cmpf (F := Ideal) (φ := .f32) .oge (x1 i) (Ideal.ofBits .f32 0xC61C4000#32) = 1#1 := e
  rw [cmpf_oge] at e
  exact bit_one e

/-! ## The precondition -/

variable (x0 : FVec Ideal S8x77x768 .f32) (x2 x3 : FVec Ideal S12x768x64 .f32) (x4 : FVec Ideal S768x768 .f32) (x5 : FVec Ideal S768 .f32)

/-- The precondition counts over the mean of the reference's own heads. -/
theorem fn_eq : fn (F := Ideal) x0 x1 x2 x3 x4 x5
    = fn_part4 (F := Ideal) x1 (scores (val_main_v46 (F := Ideal) x0 x1 x2 x3)) (across (scores (val_main_v46 (F := Ideal) x0 x1 x2 x3)))
        (down (scores (val_main_v46 (F := Ideal) x0 x1 x2 x3))) := rfl

/-- Under the precondition no tie of the reference's scores crosses the cut. -/
theorem separated (h : (fn (F := Ideal) x0 x1 x2 x3 x4 x5).1 = fun _ => 1#1) (b : Fin 8) :
    Separated (meanScore (queryOf x0) (imageOf x1) (matrixOf x3) (matrixOf x2) (parity b)) 137 := by
  rw [fn_eq] at h
  have e : (fun n => scores (val_main_v46 (F := Ideal) x0 x1 x2 x3) (ix2 b n))
      = meanScore (queryOf x0) (imageOf x1) (matrixOf x3) (matrixOf x2) (parity b) := by
    funext n
    rw [heads_apply]
    exact congrArg₂ Ideal.div (Finset.sum_congr rfl fun h _ => row_apply x0 x1 x2 x3 b h n) rfl
  exact e ▸ counted _ x1 h b

/-- Under the precondition no image value lies below the low value. -/
theorem image_bounded (h : (fn (F := Ideal) x0 x1 x2 x3 x4 x5).2 = fun _ => 1#1) (i : S8x196x768.Idx) :
    Ideal.ofBits .f32 0xC61C4000#32 ≤ x1 i := by
  rw [fn_eq] at h
  exact bounded x1 _ _ _ h i

end Cert.Pre_separated.Reading

end
-- ==== Proof.lean ====
/-
  The certificate. The kernel and the reference run to their ends and leave their arguments as they were; the kernel's
  idealization preserves it; and at exact arithmetic, when no tie of scores crosses the cut between strong and weak patches
  and no image value lies below the pooling sentinel, the kernel's output array is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_separated
public import proofs.«01_k».proof.Proof.KernelArray
public import proofs.«01_k».proof.Proof.RefMerge
public import proofs.«01_k».proof.Proof.Separated
public import Idealize.ShloMosaic.Adequacy
public import Idealize.ShloMosaic.Init

@[expose] public section

noncomputable section

namespace Cert.Proof

open Idealize.ShloMosaic Idealize.SL.Sem Idealize.ShloMosaic.ValueIdx Idealize.ShloMosaic.TcCoe

/-- The reference runs to an end from every memory, leaves its arguments alone, and has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result array is the kernel's, from equal arguments under the precondition. -/
theorem agree (x0 : FVec Ideal Cert.ReferenceIdeal.S8x77x768 .f32) (x1 : FVec Ideal Cert.ReferenceIdeal.S8x196x768 .f32)
    (x2 x3 : FVec Ideal Cert.ReferenceIdeal.S12x768x64 .f32) (x4 : FVec Ideal Cert.Pre_separated.S768x768 .f32)
    (x5 : FVec Ideal Cert.Pre_separated.S768 .f32)
    (sep : (Cert.Pre_separated.fn (F := Ideal) x0 x1 x2 x3 x4 x5).1 = fun _ => 1#1)
    (low : (Cert.Pre_separated.fn (F := Ideal) x0 x1 x2 x3 x4 x5).2 = fun _ => 1#1) :
    Cert.ReferenceIdeal.Read.val_main_v107 (F := Ideal) x0 x1 x2 x3
      = fun y => Cert.Merge.result (Cert.ReferenceIdeal.Merged.queryOf x0) (Cert.ReferenceIdeal.Merged.imageOf x1)
          (Cert.ReferenceIdeal.Merged.matrixOf x3) (Cert.ReferenceIdeal.Merged.matrixOf x2) (y 0) (y 1) (y 2) := by
  funext y
  rw [show y = ix3 (y 0) (y 1) (y 2) from Cert.Merge.idx3 rfl rfl rfl]
  exact Cert.ReferenceIdeal.Merged.result_apply x0 x1 x2 x3 (y 0) (y 1) (y 2)
    (fun n => Cert.Pre_separated.Reading.image_bounded x1 x0 x2 x3 x4 x5 low _)
    (Cert.Pre_separated.Reading.separated x1 x0 x2 x3 x4 x5 sep (y 0))

/-- The value claim: from equal arguments both programs end with the same output array. -/
theorem algebraic : Cert.algebraic_KernelIdeal_ReferenceIdeal_pre_separated (hKernelIdeal := Cert.KernelIdeal.Gen.facts)
    (hReferenceIdeal := Cert.ReferenceIdeal.Gen.facts) (hPre_separated := Cert.Pre_separated.Gen.facts) := by
  intro m g m' g' pre hargs
  refine ⟨fun c => Cert.KernelIdeal.Stages.outOf m c, Cert.KernelIdeal.Stages.run m g, ?_⟩
  refine (θ_run Cert.ReferenceIdeal.defs _ _).mono (fun r h c => ?_) (Cert.ReferenceIdeal.Value.run (F := Ideal) m' g')
  refine ⟨(h c).1.trans ((Cert.ReferenceIdeal.Read.val_main_v107_eq (StableHlo.launchContents m' c)).trans ?_), (h c).2⟩
  obtain ⟨h0, h1, h2, h3, -⟩ := hargs c
  show Cert.ReferenceIdeal.Read.val_main_v107 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) = _
  rw [h0, h1, h2, h3]
  exact agree _ _ _ _ _ _ (pre c).1 (pre c).2

/-- All the claims together. -/
theorem claim : Cert.Claim :=
  ⟨Cert.Kernel.Gen.facts, Cert.KernelIdeal.Gen.facts, Cert.ReferenceIdeal.Gen.facts, Cert.Pre_separated.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
